-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S1024x1024 : Shape := ⟨2, ![1024, 1024]⟩
abbrev S8x32 : Shape := ⟨2, ![8, 32]⟩
abbrev S2x4x512x1024 : Shape := ⟨4, ![2, 4, 512, 1024]⟩
abbrev S8 : Shape := ⟨1, ![8]⟩
abbrev S4 : Shape := ⟨1, ![4]⟩
abbrev S_ : Shape := ⟨0, ![]⟩
abbrev S1x32 : Shape := ⟨2, ![1, 32]⟩
abbrev S1024x32 : Shape := ⟨2, ![1024, 32]⟩
abbrev S32 : Shape := ⟨1, ![32]⟩
abbrev S1 : Shape := ⟨1, ![1]⟩
abbrev S1x4x512x1024 : Shape := ⟨4, ![1, 4, 512, 1024]⟩
abbrev S8x1 : Shape := ⟨2, ![8, 1]⟩
abbrev S1023x32 : Shape := ⟨2, ![1023, 32]⟩
abbrev S2x32 : Shape := ⟨2, ![2, 32]⟩
abbrev S1022x32 : Shape := ⟨2, ![1022, 32]⟩
abbrev S4x32 : Shape := ⟨2, ![4, 32]⟩
abbrev S1020x32 : Shape := ⟨2, ![1020, 32]⟩
abbrev S1016x32 : Shape := ⟨2, ![1016, 32]⟩
abbrev S16x32 : Shape := ⟨2, ![16, 32]⟩
abbrev S1008x32 : Shape := ⟨2, ![1008, 32]⟩
abbrev S32x32 : Shape := ⟨2, ![32, 32]⟩
abbrev S992x32 : Shape := ⟨2, ![992, 32]⟩
abbrev S64x32 : Shape := ⟨2, ![64, 32]⟩
abbrev S960x32 : Shape := ⟨2, ![960, 32]⟩
abbrev S128x32 : Shape := ⟨2, ![128, 32]⟩
abbrev S896x32 : Shape := ⟨2, ![896, 32]⟩
abbrev S256x32 : Shape := ⟨2, ![256, 32]⟩
abbrev S768x32 : Shape := ⟨2, ![768, 32]⟩
abbrev S1024 : Shape := ⟨1, ![1024]⟩
abbrev S1024x2048 : Shape := ⟨2, ![1024, 2048]⟩
abbrev S2048x1024 : Shape := ⟨2, ![2048, 1024]⟩
abbrev S1x2x512x1024 : Shape := ⟨4, ![1, 2, 512, 1024]⟩
abbrev S2x512x1024 : Shape := ⟨3, ![2, 512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S1024x1, .i32⟩
  | .local _ .vmem, ⟨2, _⟩ => ⟨S4x512x1024, .f32⟩
  | .local _ .vmem, ⟨3, _⟩ => ⟨S1024x1024, .f32⟩
  | .local _ .vmem, ⟨4, _⟩ => ⟨S8x32, .f32⟩
  | .local _ .vmem, ⟨5, _⟩ => ⟨S4x512x1024, .bf16⟩
  | .local _ .vmem, ⟨6, _⟩ => ⟨S2x4x512x1024, .bf16⟩
  | .local _ .vmem, ⟨7, _⟩ => ⟨S2x4x512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 3 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v9 : BitVec 1 := Scalar.cmpi .ne v2 c0_i32
  let v10 : BitVec 32 := Scalar.extui v9
  let c0_i32_5 : BitVec 32 := 0#32
  let v11 : BitVec 1 := Scalar.cmpi .ne v10 c0_i32_5
  v11

def k0_dev1 : Nat :=
  let c0_i32_511 : BitVec 32 := 0#32
  let c0_i32_509 : BitVec 32 := 0#32
  let c1_i32_510 : BitVec 32 := 1#32
  let v767 : BitVec 32 := Scalar.muli c0_i32_509 c1_i32_510
  let v768 : BitVec 32 := Scalar.addi c0_i32_511 v767
  v768.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v12 : BitVec 1 := Scalar.cmpi .ne v2 c1_i32_6
  let v13 : BitVec 32 := Scalar.extui v12
  let c0_i32_7 : BitVec 32 := 0#32
  let v14 : BitVec 1 := Scalar.cmpi .ne v13 c0_i32_7
  v14

def k0_dev2 : Nat :=
  let c0_i32_511 : BitVec 32 := 0#32
  let c1_i32_509 : BitVec 32 := 1#32
  let c1_i32_510 : BitVec 32 := 1#32
  let v767 : BitVec 32 := Scalar.muli c1_i32_509 c1_i32_510
  let v768 : BitVec 32 := Scalar.addi c0_i32_511 v767
  v768.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v15 : BitVec 1 := Scalar.cmpi .ne v2 c2_i32
  let v16 : BitVec 32 := Scalar.extui v15
  let c0_i32_8 : BitVec 32 := 0#32
  let v17 : BitVec 1 := Scalar.cmpi .ne v16 c0_i32_8
  v17

def k0_dev3 : Nat :=
  let c0_i32_511 : BitVec 32 := 0#32
  let c2_i32_509 : BitVec 32 := 2#32
  let c1_i32_510 : BitVec 32 := 1#32
  let v767 : BitVec 32 := Scalar.muli c2_i32_509 c1_i32_510
  let v768 : BitVec 32 := Scalar.addi c0_i32_511 v767
  v768.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 1 := Scalar.cmpi .ne v2 c3_i32
  let v19 : BitVec 32 := Scalar.extui v18
  let c0_i32_9 : BitVec 32 := 0#32
  let v20 : BitVec 1 := Scalar.cmpi .ne v19 c0_i32_9
  v20

def k0_dev4 : Nat :=
  let c0_i32_511 : BitVec 32 := 0#32
  let c3_i32_509 : BitVec 32 := 3#32
  let c1_i32_510 : BitVec 32 := 1#32
  let v767 : BitVec 32 := Scalar.muli c3_i32_509 c1_i32_510
  let v768 : BitVec 32 := Scalar.addi c0_i32_511 v767
  v768.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 1 := Scalar.cmpi .ne v2 c4_i32
  let v22 : BitVec 32 := Scalar.extui v21
  let c0_i32_10 : BitVec 32 := 0#32
  let v23 : BitVec 1 := Scalar.cmpi .ne v22 c0_i32_10
  v23

def k0_dev5 : Nat :=
  let c0_i32_511 : BitVec 32 := 0#32
  let c4_i32_509 : BitVec 32 := 4#32
  let c1_i32_510 : BitVec 32 := 1#32
  let v767 : BitVec 32 := Scalar.muli c4_i32_509 c1_i32_510
  let v768 : BitVec 32 := Scalar.addi c0_i32_511 v767
  v768.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v24 : BitVec 1 := Scalar.cmpi .ne v2 c5_i32
  let v25 : BitVec 32 := Scalar.extui v24
  let c0_i32_11 : BitVec 32 := 0#32
  let v26 : BitVec 1 := Scalar.cmpi .ne v25 c0_i32_11
  v26

def k0_dev6 : Nat :=
  let c0_i32_511 : BitVec 32 := 0#32
  let c5_i32_509 : BitVec 32 := 5#32
  let c1_i32_510 : BitVec 32 := 1#32
  let v767 : BitVec 32 := Scalar.muli c5_i32_509 c1_i32_510
  let v768 : BitVec 32 := Scalar.addi c0_i32_511 v767
  v768.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 1 := Scalar.cmpi .ne v2 c6_i32
  let v28 : BitVec 32 := Scalar.extui v27
  let c0_i32_12 : BitVec 32 := 0#32
  let v29 : BitVec 1 := Scalar.cmpi .ne v28 c0_i32_12
  v29

def k0_dev7 : Nat :=
  let c0_i32_511 : BitVec 32 := 0#32
  let c6_i32_509 : BitVec 32 := 6#32
  let c1_i32_510 : BitVec 32 := 1#32
  let v767 : BitVec 32 := Scalar.muli c6_i32_509 c1_i32_510
  let v768 : BitVec 32 := Scalar.addi c0_i32_511 v767
  v768.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v30 : BitVec 1 := Scalar.cmpi .ne v2 c7_i32
  let v31 : BitVec 32 := Scalar.extui v30
  let c0_i32_13 : BitVec 32 := 0#32
  let v32 : BitVec 1 := Scalar.cmpi .ne v31 c0_i32_13
  v32

def k0_dev8 : Nat :=
  let c0_i32_511 : BitVec 32 := 0#32
  let c7_i32_509 : BitVec 32 := 7#32
  let c1_i32_510 : BitVec 32 := 1#32
  let v767 : BitVec 32 := Scalar.muli c7_i32_509 c1_i32_510
  let v768 : BitVec 32 := Scalar.addi c0_i32_511 v767
  v768.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : Index := Scalar.indexCast v2
  let c0_22 : Index := 0#32
  ![v49.toNat, 0]
def k0_dev9 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v53 : BitVec 32 := Scalar.muli v7 c1_i32_26
  let v54 : BitVec 32 := Scalar.addi c0_i32_27 v53
  v54.toNat
def k0_dev10 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_34 : BitVec 32 := 1#32
  let v61 : BitVec 32 := Scalar.muli v5 c1_i32_34
  let v62 : BitVec 32 := Scalar.addi c0_i32_35 v61
  v62.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let v69 : BitVec 1 := Scalar.cmpi .ne v2 c0_i32_39
  let v70 : BitVec 32 := Scalar.extui v69
  let c0_i32_40 : BitVec 32 := 0#32
  let v71 : BitVec 1 := Scalar.cmpi .ne v70 c0_i32_40
  v71

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev11 : Nat :=
  let c0_i32_511 : BitVec 32 := 0#32
  let c0_i32_509 : BitVec 32 := 0#32
  let c1_i32_510 : BitVec 32 := 1#32
  let v767 : BitVec 32 := Scalar.muli c0_i32_509 c1_i32_510
  let v768 : BitVec 32 := Scalar.addi c0_i32_511 v767
  v768.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v72 : BitVec 1 := Scalar.cmpi .ne v2 c1_i32_41
  let v73 : BitVec 32 := Scalar.extui v72
  let c0_i32_42 : BitVec 32 := 0#32
  let v74 : BitVec 1 := Scalar.cmpi .ne v73 c0_i32_42
  v74

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev12 : Nat :=
  let c0_i32_511 : BitVec 32 := 0#32
  let c1_i32_509 : BitVec 32 := 1#32
  let c1_i32_510 : BitVec 32 := 1#32
  let v767 : BitVec 32 := Scalar.muli c1_i32_509 c1_i32_510
  let v768 : BitVec 32 := Scalar.addi c0_i32_511 v767
  v768.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v75 : BitVec 1 := Scalar.cmpi .ne v2 c2_i32_43
  let v76 : BitVec 32 := Scalar.extui v75
  let c0_i32_44 : BitVec 32 := 0#32
  let v77 : BitVec 1 := Scalar.cmpi .ne v76 c0_i32_44
  v77

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev13 : Nat :=
  let c0_i32_511 : BitVec 32 := 0#32
  let c2_i32_509 : BitVec 32 := 2#32
  let c1_i32_510 : BitVec 32 := 1#32
  let v767 : BitVec 32 := Scalar.muli c2_i32_509 c1_i32_510
  let v768 : BitVec 32 := Scalar.addi c0_i32_511 v767
  v768.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v78 : BitVec 1 := Scalar.cmpi .ne v2 c3_i32_45
  let v79 : BitVec 32 := Scalar.extui v78
  let c0_i32_46 : BitVec 32 := 0#32
  let v80 : BitVec 1 := Scalar.cmpi .ne v79 c0_i32_46
  v80

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev14 : Nat :=
  let c0_i32_511 : BitVec 32 := 0#32
  let c3_i32_509 : BitVec 32 := 3#32
  let c1_i32_510 : BitVec 32 := 1#32
  let v767 : BitVec 32 := Scalar.muli c3_i32_509 c1_i32_510
  let v768 : BitVec 32 := Scalar.addi c0_i32_511 v767
  v768.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v81 : BitVec 1 := Scalar.cmpi .ne v2 c4_i32_47
  let v82 : BitVec 32 := Scalar.extui v81
  let c0_i32_48 : BitVec 32 := 0#32
  let v83 : BitVec 1 := Scalar.cmpi .ne v82 c0_i32_48
  v83

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev15 : Nat :=
  let c0_i32_511 : BitVec 32 := 0#32
  let c4_i32_509 : BitVec 32 := 4#32
  let c1_i32_510 : BitVec 32 := 1#32
  let v767 : BitVec 32 := Scalar.muli c4_i32_509 c1_i32_510
  let v768 : BitVec 32 := Scalar.addi c0_i32_511 v767
  v768.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v84 : BitVec 1 := Scalar.cmpi .ne v2 c5_i32_49
  let v85 : BitVec 32 := Scalar.extui v84
  let c0_i32_50 : BitVec 32 := 0#32
  let v86 : BitVec 1 := Scalar.cmpi .ne v85 c0_i32_50
  v86

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev16 : Nat :=
  let c0_i32_511 : BitVec 32 := 0#32
  let c5_i32_509 : BitVec 32 := 5#32
  let c1_i32_510 : BitVec 32 := 1#32
  let v767 : BitVec 32 := Scalar.muli c5_i32_509 c1_i32_510
  let v768 : BitVec 32 := Scalar.addi c0_i32_511 v767
  v768.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v87 : BitVec 1 := Scalar.cmpi .ne v2 c6_i32_51
  let v88 : BitVec 32 := Scalar.extui v87
  let c0_i32_52 : BitVec 32 := 0#32
  let v89 : BitVec 1 := Scalar.cmpi .ne v88 c0_i32_52
  v89

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev17 : Nat :=
  let c0_i32_511 : BitVec 32 := 0#32
  let c6_i32_509 : BitVec 32 := 6#32
  let c1_i32_510 : BitVec 32 := 1#32
  let v767 : BitVec 32 := Scalar.muli c6_i32_509 c1_i32_510
  let v768 : BitVec 32 := Scalar.addi c0_i32_511 v767
  v768.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_53 : BitVec 32 := 7#32
  let v90 : BitVec 1 := Scalar.cmpi .ne v2 c7_i32_53
  let v91 : BitVec 32 := Scalar.extui v90
  let c0_i32_54 : BitVec 32 := 0#32
  let v92 : BitVec 1 := Scalar.cmpi .ne v91 c0_i32_54
  v92

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_512 : BitVec 32 := 0#32
  ![v2.toNat, 0]
def k0_dev18 : Nat :=
  let c0_i32_511 : BitVec 32 := 0#32
  let c7_i32_509 : BitVec 32 := 7#32
  let c1_i32_510 : BitVec 32 := 1#32
  let v767 : BitVec 32 := Scalar.muli c7_i32_509 c1_i32_510
  let v768 : BitVec 32 := Scalar.addi c0_i32_511 v767
  v768.toNat
def k0_dev19 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_142 : BitVec 32 := 1#32
  let v249 : BitVec 32 := Scalar.muli v7 c1_i32_142
  let v250 : BitVec 32 := Scalar.addi c0_i32_143 v249
  v250.toNat
def k0_dev20 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_154 : BitVec 32 := 1#32
  let v259 : BitVec 32 := Scalar.muli v5 c1_i32_154
  let v260 : BitVec 32 := Scalar.addi c0_i32_155 v259
  v260.toNat
def k0_dev21 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_223 : BitVec 32 := 1#32
  let v385 : BitVec 32 := Scalar.muli v5 c1_i32_223
  let v386 : BitVec 32 := Scalar.addi c0_i32_224 v385
  v386.toNat
def k0_dev22 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v401 : BitVec 32 := Scalar.muli v7 c1_i32_249
  let v402 : BitVec 32 := Scalar.addi c0_i32_250 v401
  v402.toNat
def k0_dev23 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_257 : BitVec 32 := 1#32
  let v403 : BitVec 32 := Scalar.muli v7 c1_i32_257
  let v404 : BitVec 32 := Scalar.addi c0_i32_258 v403
  v404.toNat
def k0_dev24 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_271 : BitVec 32 := 1#32
  let v413 : BitVec 32 := Scalar.muli v5 c1_i32_271
  let v414 : BitVec 32 := Scalar.addi c0_i32_272 v413
  v414.toNat
def k0_dev25 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_341 : BitVec 32 := 1#32
  let v539 : BitVec 32 := Scalar.muli v5 c1_i32_341
  let v540 : BitVec 32 := Scalar.addi c0_i32_342 v539
  v540.toNat
def k0_dev26 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_367 : BitVec 32 := 1#32
  let v555 : BitVec 32 := Scalar.muli v7 c1_i32_367
  let v556 : BitVec 32 := Scalar.addi c0_i32_368 v555
  v556.toNat
def k0_dev27 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_375 : BitVec 32 := 1#32
  let v557 : BitVec 32 := Scalar.muli v7 c1_i32_375
  let v558 : BitVec 32 := Scalar.addi c0_i32_376 v557
  v558.toNat
def k0_dev28 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_389 : BitVec 32 := 1#32
  let v567 : BitVec 32 := Scalar.muli v5 c1_i32_389
  let v568 : BitVec 32 := Scalar.addi c0_i32_390 v567
  v568.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S32x1024x8192 : Shape := ⟨3, ![32, 1024, 8192]⟩
abbrev S32x8192x1024 : Shape := ⟨3, ![32, 8192, 1024]⟩
abbrev S32 : Shape := ⟨1, ![32]⟩
abbrev S32x1 : Shape := ⟨2, ![32, 1]⟩
abbrev S32x8192 : Shape := ⟨2, ![32, 8192]⟩
abbrev S32x8192x1 : Shape := ⟨3, ![32, 8192, 1]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S8192x1, .i32⟩
  | .hbm, ⟨3, _⟩ => ⟨S32x512x1024, .f32⟩
  | .hbm, ⟨4, _⟩ => ⟨S8192, .i32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i1⟩
  | .hbm, ⟨17, _⟩ => ⟨S8192x8192, .i32⟩
  | .hbm, ⟨18, _⟩ => ⟨S_, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S32x1024x8192, .f32⟩
  | .hbm, ⟨24, _⟩ => ⟨S32x8192x1024, .f32⟩
  | .hbm, ⟨25, _⟩ => ⟨S1x8192, .i32⟩
  | .hbm, ⟨26, _⟩ => ⟨S32, .i32⟩
  | .hbm, ⟨27, _⟩ => ⟨S32x1, .i32⟩
  | .hbm, ⟨28, _⟩ => ⟨S32x8192, .i32⟩
  | .hbm, ⟨29, _⟩ => ⟨S32x8192, .i32⟩
  | .hbm, ⟨30, _⟩ => ⟨S32x8192, .i1⟩
  | .hbm, ⟨31, _⟩ => ⟨S1x8192, .i1⟩
  | .hbm, ⟨32, _⟩ => ⟨S32x8192, .i1⟩
  | .hbm, ⟨33, _⟩ => ⟨S32x8192, .i1⟩
  | .hbm, ⟨34, _⟩ => ⟨S32x8192x1, .i1⟩
  | .hbm, ⟨35, _⟩ => ⟨S_, .f32⟩
  | .hbm, ⟨36, _⟩ => ⟨S_, .f32⟩
  | .hbm, ⟨37, _⟩ => ⟨S32x8192x1024, .i1⟩
  | .hbm, ⟨38, _⟩ => ⟨S32x8192x1024, .f32⟩
  | .hbm, ⟨39, _⟩ => ⟨S32x8192x1024, .f32⟩
  | .hbm, ⟨40, _⟩ => ⟨S_, .f32⟩
  | .hbm, ⟨41, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Talk.lean ====
/-
  What the eight devices say to each other: the kinds of semaphore, who pays each and what every payment hands over, the
  order in which a device makes its payments, and the levels under which every wait is safe.
-/
module

public import proofs.«01_k».proof.Defs
public import Idealize.ShloMosaic.Lib.Pipeline.Launch
public import Idealize.ShloMosaic.Lib.ShareLeaves
public import Idealize.ShloMosaic.Lib.Ring.Trips
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ## The resource algebra -/

/-- One copy of the rounds library's algebra for the pipeline, duties named by nothing; one for the talk, duties named by
    the device that pays. -/
abbrev UU : Type := URounds (GSem nD τ sig) Unit × URounds (GSem nD τ sig) (Dev nD)

local notation "𝕄" => MT nD τ sig ℕ (Elt F) ℕ UU ℕ

/-- The pipeline's copy inside the whole algebra. -/
noncomputable def EP : Emb (URounds (GSem nD τ sig) Unit) 𝕄 :=
  (Emb.inl : Emb (URounds (GSem nD τ sig) Unit) UU).trans (uEmb (nD := nD) (sig := sig) (Ix := ℕ) (Val := Elt F) (Name := ℕ) (U := UU) (Lvl := ℕ)).toEmb

/-- The talk's copy inside the whole algebra. -/
noncomputable def ER : Emb (URounds (GSem nD τ sig) (Dev nD)) 𝕄 :=
  (Emb.inr : Emb (URounds (GSem nD τ sig) (Dev nD)) UU).trans (uEmb (nD := nD) (sig := sig) (Ix := ℕ) (Val := Elt F) (Name := ℕ) (U := UU) (Lvl := ℕ)).toEmb

instance EP_landsIn : (EP : Emb _ 𝕄).LandsIn (upEmb : UEmb _ 𝕄) := by unfold EP; infer_instance
instance ER_landsIn : (ER : Emb _ 𝕄).LandsIn (upEmb : UEmb _ 𝕄) := by unfold ER; infer_instance

/-! ## The two ways round the ring -/

/-- The two streams: blocks travelling to the right, blocks travelling to the left. -/
inductive Side | r | l
  deriving DecidableEq

noncomputable instance : Fintype Side := ⟨{.r, .l}, fun s => by cases s <;> decide⟩

/-- The device `k` places to the right. -/
noncomputable def fwd (k : ℕ) (c : Dev nD) : Dev nD := ⟨(c.val + k) % 8, Nat.mod_lt _ (by decide)⟩

/-- Whom a device sends to in a stream. -/
noncomputable def nxt : Side → Dev nD → Dev nD
  | .r => fwd 1
  | .l => fwd 7

/-- Whom a device hears from in a stream. -/
noncomputable def prv : Side → Dev nD → Dev nD
  | .r => fwd 7
  | .l => fwd 1

/-- Whose block reaches a device after `k` hops of a stream. -/
noncomputable def org : Side → ℕ → Dev nD → Dev nD
  | .r, k => fwd (8 - k)
  | .l, k => fwd k

theorem prv_nxt (s : Side) (c : Dev nD) : prv s (nxt s c) = c := by revert s c; decide
theorem nxt_prv (s : Side) (c : Dev nD) : nxt s (prv s c) = c := by revert s c; decide
/-- What reaches the next device after one more hop is what reached this one. -/
theorem org_nxt (s : Side) (k : Fin 4) (c : Dev nD) : org s (k.val + 1) (nxt s c) = org s k.val c := by revert s k c; decide
theorem org_zero (s : Side) (c : Dev nD) : org s 0 c = c := by revert s c; decide

/-- A stream as a permutation of the devices. -/
noncomputable def ring (s : Side) : Dev nD ≃ Dev nD := ⟨nxt s, prv s, prv_nxt s, nxt_prv s⟩

/-! ## The semaphores -/

/-- The kinds of cell a device has: its barrier; for each peer the send and the receive cell of the routing rows; for each
    stream and hop the send and the receive cell of the expert blocks; for each stream the cell on which its successor
    says that a place is free again. -/
inductive Kd | bar | hs (p : Fin 8) | hr (p : Fin 8) | sn (s : Side) (h : Fin 4) | rv (s : Side) (h : Fin 4) | cr (s : Side)
  deriving DecidableEq

/-- All kinds. -/
noncomputable def kinds : List Kd :=
  [.bar] ++ (List.finRange 8).map .hs ++ (List.finRange 8).map .hr ++ (List.finRange 4).map (.sn .r) ++ (List.finRange 4).map (.rv .r)
    ++ (List.finRange 4).map (.sn .l) ++ (List.finRange 4).map (.rv .l) ++ [.cr .r, .cr .l]

noncomputable instance : Fintype Kd := ⟨kinds.toFinset, fun k => by
  rw [List.mem_toFinset]
  rcases k with _ | p | p | ⟨s, h⟩ | ⟨s, h⟩ | s <;> try cases s
  all_goals simp [kinds]⟩

/-- The semaphore of each kind. -/
noncomputable def csem : Kd → SemLoc sig
  | .bar => .reg (sig.barrier 0 rfl)
  | .hs p => .dma (⟨4 + p.val, by have := p.isLt; show 4 + p.val < 36; omega⟩ : Fin 36)
  | .hr p => .dma (⟨12 + p.val, by have := p.isLt; show 12 + p.val < 36; omega⟩ : Fin 36)
  | .sn .r h => .dma (⟨20 + h.val, by have := h.isLt; show 20 + h.val < 36; omega⟩ : Fin 36)
  | .rv .r h => .dma (⟨24 + h.val, by have := h.isLt; show 24 + h.val < 36; omega⟩ : Fin 36)
  | .sn .l h => .dma (⟨28 + h.val, by have := h.isLt; show 28 + h.val < 36; omega⟩ : Fin 36)
  | .rv .l h => .dma (⟨32 + h.val, by have := h.isLt; show 32 + h.val < 36; omega⟩ : Fin 36)
  | .cr .r => .reg (0 : Fin 3)
  | .cr .l => .reg (1 : Fin 3)

/-- The kind of a semaphore, if it is one of the talk's. -/
noncomputable def kindOf (sm : SemLoc sig) : Option Kd := kinds.find? fun k => csem k = sm

theorem kindOf_csem (k : Kd) : kindOf (csem k) = some k := by
  rcases k with _ | p | p | ⟨s, h⟩ | ⟨s, h⟩ | s <;> try cases s
  · rfl
  · revert p; decide
  · revert p; decide
  · revert h; decide
  · revert h; decide
  · revert h; decide
  · revert h; decide
  · rfl
  · rfl

theorem csem_injective : Function.Injective csem := fun a b h => by
  have := congrArg kindOf h
  rw [kindOf_csem, kindOf_csem] at this
  exact Option.some.inj this

/-- The cell of a kind on a device. -/
noncomputable def kcell (ck : Dev nD × Kd) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

/-! ## Contents -/

/-- A block of experts in every slot of a landing buffer. -/
noncomputable def spread (w : Vec F S4x512x1024 .bf16) : Vec F S2x4x512x1024 .bf16 := fun i => w (fun a => i a.succ)

/-- The elements of a slot of a landing buffer, -/
noncomputable def slotS (k : ℕ) : Finset S2x4x512x1024.Idx := Finset.univ.filter fun i => (i 0).val = k
/-- the half of the experts that the last hop of a stream carries, -/
noncomputable def inHalf : Side → ℕ → Prop
  | .r, e => e < 2
  | .l, e => 2 ≤ e
noncomputable instance (s : Side) (e : ℕ) : Decidable (inHalf s e) := by cases s <;> unfold inHalf <;> infer_instance
/-- and that half of a slot. -/
noncomputable def halfS (s : Side) (k : ℕ) : Finset S2x4x512x1024.Idx := (slotS k).filter fun i => inHalf s (i 1).val
/-- A row of the table of counts. -/
noncomputable def rowS (p : ℕ) : Finset S8x32.Idx := Finset.univ.filter fun i => (i 0).val = p

/-- A part of a stream's landing buffer on a device, at a share and contents. -/
noncomputable def bufPts (c : Dev nD) (s : Side) (I : Finset S2x4x512x1024.Idx) (q : PosShare TreeShare) (f : Vec F S2x4x512x1024 .bf16) : sProp 𝕄 :=
  match s with
  | .r => ((c : Thread nD τ).loc cc0_scratch2) ↦[I]{q} f
  | .l => ((c : Thread nD τ).loc cc0_scratch3) ↦[I]{q} f

/-- A part of the table of counts on a device. -/
noncomputable def hisPts (c : Dev nD) (I : Finset S8x32.Idx) (q : PosShare TreeShare) (f : Vec F S8x32 .f32) : sProp 𝕄 :=
  ((c : Thread nD τ).loc cc0_scratch0) ↦[I]{q} f

/-- A device's own rounded experts. -/
noncomputable def ewPts (c : Dev nD) (q : PosShare TreeShare) (f : Vec F S4x512x1024 .bf16) : sProp 𝕄 :=
  ((c : Thread nD τ).loc cc0_scratch1) ↦{q} f

instance bufPts_storable (c : Dev nD) (s : Side) (I) (q) (f) : BI.Storable (upEmb : UEmb _ 𝕄) (bufPts (F := F) c s I q f) := by
  cases s <;> unfold bufPts <;> infer_instance
instance hisPts_storable (c : Dev nD) (I) (q) (f) : BI.Storable (upEmb : UEmb _ 𝕄) (hisPts (F := F) c I q f) := by
  unfold hisPts; infer_instance
instance ewPts_storable (c : Dev nD) (q) (f) : BI.Storable (upEmb : UEmb _ 𝕄) (ewPts (F := F) c q f) := by
  unfold ewPts; infer_instance

/-- The share of a device's own experts that a stream's first hop reads. -/
noncomputable def ewShare : Side → PosShare TreeShare
  | .r => fullShare.right.left
  | .l => fullShare.right.right
/-- The share of a device's own row of counts that the copy to a peer reads. -/
noncomputable def rowShare (p : Fin 8) : PosShare TreeShare := ShareLeaves.leaf 3 fullShare p

/-! ## The schedule -/

variable (wb : Dev nD → Vec F S4x512x1024 .bf16) (hb : Vec F S8x32 .f32)

/-- What device `p`'s barrier signal hands device `c`: row `c` of `p`'s table, and the landing buffers of the streams in
    which `c` sends to `p`. -/
noncomputable def barPay (c p : Dev nD) : sProp 𝕄 :=
  iprop((∃ f, hisPts p (rowS c.val) fullShare f)
    ∗ (if p = nxt .r c then iprop(∃ f, bufPts (F := F) p .r Finset.univ fullShare f) else iprop(emp))
    ∗ (if p = nxt .l c then iprop(∃ f, bufPts (F := F) p .l Finset.univ fullShare f) else iprop(emp)))

/-- What the read-out of a hop gives back. -/
noncomputable def snPay (c : Dev nD) (s : Side) : Fin 4 → sProp 𝕄
  | 0 => ewPts c (ewShare s) (wb c)
  | 1 => bufPts c s (slotS 1) fullShare.left (spread (wb (org s 1 c)))
  | 2 => bufPts c s (slotS 0) fullShare.left (spread (wb (org s 2 c)))
  | 3 => bufPts c s (halfS s 1) fullShare.left (spread (wb (org s 3 c)))

/-- What the landing of a hop hands over. -/
noncomputable def rvPay (c : Dev nD) (s : Side) : Fin 4 → sProp 𝕄
  | 0 => bufPts c s (slotS 1) fullShare (spread (wb (org s 1 c)))
  | 1 => bufPts c s (slotS 0) fullShare (spread (wb (org s 2 c)))
  | 2 => iprop(bufPts c s (slotS 1) fullShare (spread (wb (org s 3 c))) ∗ reached ER (kcell (prv s c, .cr s)) 1)
  | 3 => bufPts c s (halfS s 0) fullShare (spread (wb (org s 4 c)))

/-- What a successor's word that a place is free hands over: the place. -/
noncomputable def crPay (c : Dev nD) (s : Side) : ℕ → sProp 𝕄
  | 0 => iprop(∃ f, bufPts (F := F) (nxt s c) s (slotS 1) fullShare f)
  | _ => iprop(∃ f, bufPts (F := F) (nxt s c) s (halfS s 0) fullShare f)

/-- Who pays a cell in a round. -/
noncomputable def dutiesK (c : Dev nD) : Kd → ℕ → Finset (Dev nD)
  | .bar, 0 => Finset.univ.erase c
  | .hs p, 0 => if p = c then ∅ else {0}
  | .hr p, 0 => if p = c then ∅ else {0}
  | .sn _ _, 0 => {0}
  | .rv _ _, 0 => {0}
  | .cr _, 0 => {0}
  | .cr _, 1 => {0}
  | _, _ => ∅

/-- The credit of one row of counts, -/
noncomputable def nRow : ℕ := ((Memref.whole cc0_scratch0 : Memref sig .tc .vmem S8x32 .f32).slice (Rect.unit (s := S8x32) ![0, 0] S1x32.size inb_S8x32_S1x32_0_0) (fun _ => rfl)).view.dmaCredit
/-- of one slot of experts, -/
noncomputable def nSlot : ℕ := (Memref.whole cc0_scratch1 : Memref sig .tc .vmem S4x512x1024 .bf16).view.dmaCredit
/-- of half a slot. -/
noncomputable def nHalf : ℕ := (((Memref.whole cc0_scratch2 : Memref sig .tc .vmem S2x4x512x1024 .bf16).slice (Rect.unit (s := S2x4x512x1024) ![0, 0, 0, 0] S1x2x512x1024.size inb_S2x4x512x1024_S1x2x512x1024_0_0_0_0) (fun _ => rfl)).squeeze S2x512x1024 squeezes_S1x2x512x1024_S2x512x1024).view.dmaCredit

/-- What a payment of a cell amounts to. -/
noncomputable def amountK : Kd → ℕ
  | .bar => 1
  | .hs _ => nRow
  | .hr _ => nRow
  | .sn _ h => if h = 3 then nHalf else nSlot
  | .rv _ h => if h = 3 then nHalf else nSlot
  | .cr _ => 1

theorem amountK_pos (k : Kd) : 0 < amountK k := by
  have h1 : 0 < nRow := View.dmaCredit_pos _ (by decide)
  have h2 : 0 < nSlot := View.dmaCredit_pos _ (by decide)
  have h3 : 0 < nHalf := View.dmaCredit_pos _ (by decide)
  cases k <;> simp only [amountK] <;> first | exact Nat.one_pos | exact h1 | (split <;> assumption)

/-- What a payment of a cell hands the cell's owner. -/
noncomputable def payloadK (c : Dev nD) : Kd → ℕ → Dev nD → sProp 𝕄
  | .bar, _, p => barPay c p
  | .hs p, _, _ => hisPts c (rowS c.val) (rowShare p) hb
  | .hr p, _, _ => hisPts c (rowS p.val) fullShare hb
  | .sn s h, _, _ => snPay wb c s h
  | .rv s h, _, _ => rvPay wb c s h
  | .cr s, r, _ => crPay c s r

/-- The schedule of the talk. -/
noncomputable def Rd : Rounds.Schedule (GSem nD τ sig) (Dev nD) 𝕄 where
  duties g r := match kindOf g.2 with
    | some k => dutiesK g.1.1 k r
    | none => ∅
  unitless _ := False
  amount g _ _ := match kindOf g.2 with
    | some k => amountK k
    | none => 1
  payload g r d := match kindOf g.2 with
    | some k => payloadK wb hb g.1.1 k r d
    | none => iprop(emp)
  amount_pos g _ _ _ := by
    split
    · exact amountK_pos _
    · exact Nat.one_pos

instance barPay_storable (c p : Dev nD) : BI.Storable (upEmb : UEmb _ 𝕄) (barPay (F := F) c p) := by
  unfold barPay
  (repeat' split) <;> infer_instance
instance snPay_storable (c : Dev nD) (s : Side) (h : Fin 4) : BI.Storable (upEmb : UEmb _ 𝕄) (snPay wb c s h) := by
  unfold snPay; split <;> infer_instance
instance rvPay_storable (c : Dev nD) (s : Side) (h : Fin 4) : BI.Storable (upEmb : UEmb _ 𝕄) (rvPay wb c s h) := by
  unfold rvPay; split <;> infer_instance
instance crPay_storable (c : Dev nD) (s : Side) (r : ℕ) : BI.Storable (upEmb : UEmb _ 𝕄) (crPay (F := F) c s r) := by
  unfold crPay; split <;> infer_instance
instance payloadK_storable (c : Dev nD) (k : Kd) (r : ℕ) (d : Dev nD) : BI.Storable (upEmb : UEmb _ 𝕄) (payloadK wb hb c k r d) := by
  cases k <;> simp only [payloadK] <;> infer_instance
instance Rd_storable (g : GSem nD τ sig) (r : ℕ) (d : Dev nD) : BI.Storable (upEmb : UEmb _ 𝕄) ((Rd wb hb).payload g r d) := by
  show BI.Storable upEmb (match kindOf g.2 with | some k => payloadK wb hb g.1.1 k r d | none => iprop(emp))
  split <;> infer_instance

theorem Rd_duties (c : Dev nD) (k : Kd) (r : ℕ) : (Rd wb hb).duties (kcell (c, k)) r = dutiesK c k r := by
  show (match kindOf (csem k) with | some k => dutiesK c k r | none => ∅) = _
  rw [kindOf_csem]
theorem Rd_amount (c : Dev nD) (k : Kd) (r : ℕ) (d : Dev nD) : (Rd wb hb).amount (kcell (c, k)) r d = amountK k := by
  show (match kindOf (csem k) with | some k => amountK k | none => 1) = _
  rw [kindOf_csem]
theorem Rd_payload (c : Dev nD) (k : Kd) (r : ℕ) (d : Dev nD) : (Rd wb hb).payload (kcell (c, k)) r d = payloadK wb hb c k r d := by
  show (match kindOf (csem k) with | some k => payloadK wb hb c k r d | none => iprop(emp)) = _
  rw [kindOf_csem]
theorem Rd_expect (c : Dev nD) (k : Kd) (r : ℕ) : (Rd wb hb).expect (kcell (c, k)) r = (dutiesK c k r).card * amountK k := by
  unfold Schedule.expect Schedule.amountOf
  rw [Rd_duties, Finset.sum_congr rfl fun d _ => Rd_amount wb hb c k r d, Finset.sum_const, smul_eq_mul]
/-- Nobody pays after round 1. -/
theorem dutiesK_late (c : Dev nD) (k : Kd) (r : ℕ) (h : 2 ≤ r) : dutiesK c k r = ∅ := by
  obtain ⟨r, rfl⟩ := Nat.exists_eq_add_of_le h
  rw [Nat.add_comm]; cases k <;> rfl

/-! ## What a device owes, in the order it pays -/

/-- A payment to come: to whom, on which of its cells, under which index, how much. -/
abbrev Due : Type := Dev nD × Kd × ℕ × ℕ

/-- The payments to come as one tally. -/
noncomputable def owe (l : List Due) : CellTallies nD τ sig ℕ := (l.map fun e => tallyAt (kcell (e.1, e.2.1)) e.2.2.1 e.2.2.2).sum

theorem owe_cons (e : Due) (l : List Due) : owe (e :: l) = owe l + tallyAt (kcell (e.1, e.2.1)) e.2.2.1 e.2.2.2 := by
  unfold owe; rw [List.map_cons, List.sum_cons, add_comm]
theorem owe_nil : owe [] = 0 := rfl

/-- The barrier signal to device `p`, none to itself. -/
noncomputable def dBar (c p : Dev nD) : Due := (p, .bar, 0, if p = c then 0 else 1)
/-- The landing of its row of counts on device `p`. -/
noncomputable def dRow (c p : Dev nD) : Due := (p, .hr c, 0, if p = c then 0 else nRow)
/-- The landing of a hop on the successor. -/
noncomputable def dHop (c : Dev nD) (s : Side) (h : Fin 4) : Due := (nxt s c, .rv s h, 0, amountK (.rv s h))
/-- The word to the predecessor that a place is free. -/
noncomputable def dCr (c : Dev nD) (s : Side) (r : ℕ) : Due := (prv s c, .cr s, r, 1)

/-- The last payments: the second hops, the words, the later hops. -/
noncomputable def dues3 (c : Dev nD) : List Due :=
  [dHop c .r 1, dHop c .l 1, dCr c .r 0, dCr c .l 0, dHop c .r 2, dHop c .l 2, dCr c .r 1, dCr c .l 1, dHop c .r 3, dHop c .l 3]
/-- Before them the rows of counts, -/
noncomputable def dues2 (c : Dev nD) : List Due := [dRow c 0, dRow c 1, dRow c 2, dRow c 3, dRow c 4, dRow c 5, dRow c 6, dRow c 7] ++ dues3 c
/-- before them the first hops, -/
noncomputable def dues1 (c : Dev nD) : List Due := [dHop c .r 0, dHop c .l 0] ++ dues2 c
/-- and first of all the barrier signals. -/
noncomputable def dues (c : Dev nD) : List Due := [dBar c 0, dBar c 1, dBar c 2, dBar c 3, dBar c 4, dBar c 5, dBar c 6, dBar c 7] ++ dues1 c

/-! ## Levels -/

/-- The level of an index of a cell of a kind. -/
noncomputable def lvK : Kd → ℕ → ℕ
  | .bar, _ => 1
  | .hs _, _ => 0
  | .hr _, _ => 2
  | .sn _ _, _ => 0
  | .rv _ 0, _ => 3
  | .rv _ 1, _ => 4
  | .rv _ 2, _ => 6
  | .rv _ 3, _ => 8
  | .cr _, 0 => 5
  | .cr _, _ => 7

/-- The indices levelled at a cell, -/
noncomputable def L (g : GSem nD τ sig) : Finset ℕ := if g.1.2 = .tc then {0, 1} else ∅
/-- and their levels: a semaphore outside the talk is below everything. -/
noncomputable def lv (g : GSem nD τ sig) (u : ℕ) : ℕ := match kindOf g.2 with
  | some k => lvK k u
  | none => 0

theorem L_of_ne (g : GSem nD τ sig) (h : g.1.2 ≠ .tc) : L g = ∅ := if_neg h
theorem L_tc (c : Dev nD) (sm : SemLoc sig) : L ((c : Thread nD τ), sm) = {0, 1} := if_pos rfl
theorem lv_kcell (c : Dev nD) (k : Kd) (u : ℕ) : lv (kcell (c, k)) u = lvK k u := by
  show (match kindOf (csem k) with | some k => lvK k u | none => 0) = _
  rw [kindOf_csem]

/-- Where the payments to come are owed. -/
theorem owe_pos {l : List Due} {g : GSem nD τ sig} {u : ℕ} (h : 0 < owe l g u) : ∃ e ∈ l, g = kcell (e.1, e.2.1) ∧ u = e.2.2.1 := by
  induction l with
  | nil => exact absurd h (Nat.lt_irrefl 0)
  | cons e l ih =>
    rw [owe_cons, Pi.add_apply, Finsupp.add_apply, tallyAt_apply] at h
    by_cases h' : g = kcell (e.1, e.2.1) ∧ u = e.2.2.1
    · exact ⟨e, List.mem_cons_self, h'⟩
    · rw [if_neg h', Nat.add_zero] at h
      obtain ⟨e', he', h''⟩ := ih h
      exact ⟨e', List.mem_cons_of_mem _ he', h''⟩

/-- Whether a wait at a level is below all payments to come. -/
noncomputable def below (b : ℕ) (l : List Due) : Bool := l.all fun e => Nat.blt b (lvK e.2.1 e.2.2.1) && Nat.ble e.2.2.1 1

theorem below_tail {b : ℕ} {e : Due} {l : List Due} (h : below b (e :: l) = true) : below b l = true := by
  simp only [below, List.all_cons, Bool.and_eq_true] at h; exact h.2

omit [FloatOps F] in
/-- A wait below all payments to come may be made. -/
theorem mayWait_owe (c : Dev nD) (sm : SemLoc sig) (ι : ℕ) (hι : ι ≤ 1) {l : List Due} (h : below (lv ((c : Thread nD τ), sm) ι) l = true) :
    (levAts L lv : sProp 𝕄) ⊢ MayWait (c : Thread nD τ) sm ι (owe l) := by
  have hall : ∀ e ∈ l, lv ((c : Thread nD τ), sm) ι < lvK e.2.1 e.2.2.1 ∧ e.2.2.1 ≤ 1 := fun e he => by
    have := List.all_eq_true.mp h e he
    rw [Bool.and_eq_true] at this
    exact ⟨Nat.blt_eq.mp this.1, Nat.ble_eq.mp this.2⟩
  have hin : ∀ u : ℕ, u ≤ 1 → u ∈ ({0, 1} : Finset ℕ) := fun u hu => by
    rcases Nat.le_one_iff_eq_zero_or_eq_one.mp hu with rfl | rfl <;> decide
  refine MayOwe.of_cut (L := L) (lev := lv) (lv ((c : Thread nD τ), sm) ι) (fun p hp => ?_) (fun g u hg => ?_) (fun p hp => ?_) (fun g u hg => ?_)
  · rw [Finset.mem_singleton.mp hp, L_tc]; exact hin _ hι
  · obtain ⟨e, he, rfl, rfl⟩ := owe_pos hg
    show _ ∈ L ((e.1 : Thread nD τ), csem e.2.1)
    rw [L_tc]; exact hin _ (hall e he).2
  · rw [Finset.mem_singleton.mp hp]
  · obtain ⟨e, he, rfl, rfl⟩ := owe_pos hg
    rw [lv_kcell]; exact (hall e he).1

end Cert.KernelIdeal.Talk
-- ==== Proof.Steps.lean ====
/-
  The talk's steps, each once for every kind of cell: a signal, a remote copy, a wait.
-/
module

public import proofs.«01_k».proof.Proof.Talk
public import Idealize.ShloMosaic.Lib.SparseCore.ProtocolKit

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig ℕ (Elt F) ℕ UU ℕ

/-- The kernel's variants: none, its body makes no calls. -/
abbrev 𝒱₀ : Variants := Variants.none

/-- The weakest precondition of a piece of the body on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (wb : Dev nD → Vec F S4x512x1024 .bf16) (hb : Vec F S8x32 .f32)

/-- What every device may use again and again: every cell's invariant, that every cell has reached round 0, the levels. -/
noncomputable def Rec (K : Dev nD × Kd → ℕ) : sProp 𝕄 :=
  iprop(bigSep Finset.univ (fun ck : Dev nD × Kd => cellInv ER (Rd wb hb) (K ck) (kcell ck))
    ∗ bigSep Finset.univ (fun ck : Dev nD × Kd => (reached ER (kcell ck) 0 : sProp 𝕄)) ∗ levAts L lv)

instance Rec_persistent (K : Dev nD × Kd → ℕ) : BI.Persistent (Rec wb hb K) := by unfold Rec; infer_instance

theorem Rec_inv (K : Dev nD × Kd → ℕ) (ck : Dev nD × Kd) : Rec wb hb K ⊢ cellInv ER (Rd wb hb) (K ck) (kcell ck) := by
  unfold Rec
  iintro ⟨H, -, -⟩
  iapply (SparseCore.ProtocolKit.bigSep_univ_elim _ ck) $$ H
theorem Rec_reached (K : Dev nD × Kd → ℕ) (ck : Dev nD × Kd) : Rec wb hb K ⊢ reached ER (kcell ck) 0 := by
  unfold Rec
  iintro ⟨-, H, -⟩
  iapply (SparseCore.ProtocolKit.bigSep_univ_elim _ ck) $$ H
theorem Rec_lev (K : Dev nD × Kd → ℕ) : Rec wb hb K ⊢ levAts L lv := by
  unfold Rec
  iintro ⟨-, -, H⟩
  iexact H

/-- A device owes the payments to come, whatever it has waited for. -/
noncomputable def Owes (c : Dev nD) (l : List Due) : sProp 𝕄 := iprop(∃ W, owes (c : Thread nD τ) (owe l) W)

variable {α : Type}

/-- A payment of nothing is no payment. -/
theorem Owes_skip (c : Dev nD) (e : Due) (l : List Due) (h : e.2.2.2 = 0) : Owes (F := F) c (e :: l) ⊢ Owes c l := by
  unfold Owes
  rw [owe_cons, h, tallyAt_zero, add_zero]

/-- A signal that pays a duty of a device's cell. -/
theorem step_signal (K : Dev nD × Kd → ℕ) (c d : Dev nD) {n : Dev nD} (hn : n = d) (k : Kd) {sem : Sem sig} (hs : SemLoc.reg sem = csem k)
    (r : ℕ) (ix : ℕ) (q : Dev nD) (hq : q ∈ dutiesK d k r) {v : ℕ} (hv : v = amountK k) (l : List Due)
    {kont : PUnit → Prog (TpuEff nD τ sig (Elt F) Λ₀ .tc) α} {Q : α → sProp 𝕄} :
    iprop(Rec wb hb K ∗ Owes c ((d, k, ix, v) :: l) ∗ dutyTok ER (kcell (d, k)) r q ∗ payloadK wb hb d k r q ∗ reached ER (kcell (d, k)) r)
      ⊢ iprop((Owes c l -∗ run c (kont PUnit.unit) Q) -∗ run c (.op (.semSignal (n : Thread nD τ) sem v) kont) Q) := by
  subst hn
  have hcell : (((n : Thread nD τ), SemLoc.reg sem) : GSem nD τ sig) = kcell (n, k) := by rw [hs]; rfl
  unfold Owes
  iintro ⟨#HR, ⟨%W, HO⟩, Ht, Hp, #Hr⟩ Hk
  iapply (Rounds.wp_signal 𝒱₀ ER (Rd wb hb) (c : Thread nD τ) none (dst := (n : Thread nD τ)) (sem := sem) (κ := K (n, k)) (r := r) (d := q) (k' := v)
    (by rw [hcell, Rd_duties]; exact hq) (by rw [hcell, Rd_amount, hv]) ix (O₀ := owe ((n, k, ix, v) :: l)) (owe l) (by rw [owe_cons, hcell])) $$ [HO Ht Hp]
  · rw [hcell, Rd_payload]
    isplitr; · iapply (Rec_inv wb hb K (n, k)) $$ HR
    isplitl [HO]; · iexact HO
    isplitl [Ht]; · iexact Ht
    isplitl [Hp]; · iexact Hp
    iexact Hr
  iintro HO
  iapply Hk
  iexists W; iexact HO

/-- A remote copy that pays a duty of the sender's cell with its read-out and one of the receiver's with its landing. -/
theorem step_send (K : Dev nD × Kd → ℕ) (c d : Dev nD) {n : Dev nD} (hn : n = d) (kS kV : Kd) {sS sV : SemLoc sig} (hS : sS = csem kS) (hV : sV = csem kV)
    {sp sp' : Space} {s : Shape} {e : EltTy} {src : Memref sig .tc sp s e} {dst : Memref sig .tc sp' s e} {hsc : dst.view.ref.isScScratch = false}
    {hsrc : src.view.WordExact} {hdst : dst.view.WordExact} {hsem : DmaTarget.Typed sp sV (.remote (n : Thread nD τ) dst sS hsc)}
    (qS qV : Dev nD) (hqS : qS ∈ dutiesK c kS 0) (hqV : qV ∈ dutiesK d kV 0) (N : ℕ) (hN : dst.view.amount sV = N) (hNS : amountK kS = N) (hNV : amountK kV = N)
    {q : PosShare TreeShare} {fs : Buf (Elt F) (src.view.loc (c : Thread nD τ))} {fd : Buf (Elt F) (dst.view.loc (d : Thread nD τ))} (X : sProp 𝕄)
    (hp₁ : (src.view.loc (c : Thread nD τ) ↦[src.view.set]{q} fs) ⊢ payloadK wb hb c kS 0 qS)
    (hp₂ : iprop((dst.view.loc (d : Thread nD τ) ↦[dst.view.set]{fullShare} (dst.view.write (Elt F) fd (src.view.read (Elt F) fs) Finset.univ)) ∗ X)
      ⊢ payloadK wb hb d kV 0 qV) (ix : ℕ) (l : List Due) {kont : PUnit → Prog (TpuEff nD τ sig (Elt F) Λ₀ .tc) α} {Q : α → sProp 𝕄} :
    iprop(Rec wb hb K ∗ (src.view.loc (c : Thread nD τ) ↦[src.view.set]{q} fs) ∗ (dst.view.loc (d : Thread nD τ) ↦[dst.view.set]{fullShare} fd) ∗ X
        ∗ Owes c ((d, kV, ix, N) :: l) ∗ dutyTok ER (kcell (c, kS)) 0 qS ∗ dutyTok ER (kcell (d, kV)) 0 qV)
      ⊢ iprop(((cred (tallyAt (kcell (c, kS)) 0 N) ∗ Owes c l) -∗ run c (kont PUnit.unit) Q)
          -∗ run c (.op (.enqueueDma src (.remote (n : Thread nD τ) dst sS hsc) sV hsrc hdst hsem) kont) Q) := by
  subst hn hS hV
  unfold Owes
  iintro ⟨#HR, Hs, Hd, HX, ⟨%W, HO⟩, HtS, HtV⟩ Hk
  iapply (Rounds.wp_send_pointsTo_with 𝒱₀ ER (Rd wb hb) (c : Thread nD τ) none (c' := (n : Thread nD τ)) (src := src) (dst := dst) (sS := csem kS) (sem := csem kV)
    (κ₁ := K (c, kS)) (κ₂ := K (n, kV)) (r₁ := 0) (r₂ := 0) (d₁ := qS) (d₂ := qV) (q := q) (fs := fs) (fd := fd) (F := X)
    ((Rd_duties wb hb c kS 0).symm ▸ hqS) ((Rd_duties wb hb n kV 0).symm ▸ hqV) ix 0 N hN
    ((Rd_amount wb hb c kS 0 qS).trans hNS) ((Rd_amount wb hb n kV 0 qV).trans hNV) (O₀ := owe ((n, kV, ix, N) :: l)) (owe l) (owe_cons _ _) (W := W)
    (hp₁.trans (Entails.of_eq (Rd_payload wb hb c kS 0 qS).symm)) (hp₂.trans (Entails.of_eq (Rd_payload wb hb n kV 0 qV).symm))) $$ [Hs Hd HX HO HtS HtV]
  · isplitr; · iapply (Rec_inv wb hb K (c, kS)) $$ HR
    isplitr; · iapply (Rec_inv wb hb K (n, kV)) $$ HR
    isplitl [Hs]; · iexact Hs
    isplitl [Hd HX]
    · isplitl [Hd]; · iexact Hd
      iexact HX
    isplitl [HO]; · iexact HO
    isplitl [HtS]; · iexact HtS
    isplitr; · iapply (Rec_reached wb hb K (c, kS)) $$ HR
    isplitl [HtV]; · iexact HtV
    iapply (Rec_reached wb hb K (n, kV)) $$ HR
  iintro ⟨Hc, HO⟩
  iapply Hk
  isplitl [Hc]; · iexact Hc
  iexists W; iexact HO

/-- A wait for the whole of a round of a device's own cell. -/
theorem step_wait (K : Dev nD × Kd → ℕ) (c : Dev nD) (k : Kd) {w : TpuEff nD τ sig (Elt F) Λ₀ .tc PUnit} {sm : SemLoc sig} {v : ℕ}
    (hw : ∀ P : PUnit → sProp 𝕄, wpE (defs₀ (F := F)) 𝒱₀ (c : Thread nD τ) none Set.univ w P = waitSpec (c : Thread nD τ) Set.univ sm v P) (hs : sm = csem k) (r ix : ℕ)
    (hv : v = (dutiesK c k r).card * amountK k) (hix : ix ≤ 1) (l : List Due) (hl : below (lvK k ix) l = true)
    {kont : PUnit → Prog (TpuEff nD τ sig (Elt F) Λ₀ .tc) α} {Q : α → sProp 𝕄} :
    iprop(Rec wb hb K ∗ cred (tallyAt (kcell (c, k)) ix v) ∗ Owes c l ∗ atPos ER (kcell (c, k)) r ∅ 0)
      ⊢ iprop(((Owes c l ∗ atPos ER (kcell (c, k)) (r + 1) ∅ 0 ∗ reached ER (kcell (c, k)) (r + 1)
              ∗ bigSep (dutiesK c k r) (fun d => payloadK wb hb c k r d)) -∗ run c (kont PUnit.unit) Q)
          -∗ run c (.op w kont) Q) := by
  subst hs
  unfold Owes
  iintro ⟨#HR, Hc, ⟨%W, HO⟩, Hat⟩ Hk
  iapply (Rounds.wp_wait_rest_token 𝒱₀ ER (Rd wb hb) (c : Thread nD τ) none (κ := K (c, k)) hw (Set.mem_univ _) ix (O := owe l) (W := W) (R := r) (m := 0) (T := ∅)
    ((Nat.zero_add v).trans (hv.trans (Rd_expect wb hb c k r).symm))) $$ [Hc HO Hat]
  · isplitr; · iapply (Rec_inv wb hb K (c, k)) $$ HR
    isplitl [Hc]; · iexact Hc
    isplitl [HO]; · iexact HO
    isplitr; · iapply ((Rec_lev wb hb K).trans (mayWait_owe c (csem k) ix hix ((congrArg (fun b => below b l) (lv_kcell c k ix)).trans hl))) $$ HR
    iexact Hat
  iintro ⟨HO, Hat, Hr, Hp⟩
  iapply Hk
  isplitl [HO]; · iexists _; iexact HO
  isplitl [Hat]; · iexact Hat
  isplitl [Hr]; · iexact Hr
  iapply (Entails.of_eq (show bigSep ((Rd wb hb).duties ((c : Thread nD τ), csem k) r \ ∅) (fun d => (Rd wb hb).payload ((c : Thread nD τ), csem k) r d) = bigSep (dutiesK c k r) (fun d => payloadK wb hb c k r d) from by
    rw [Finset.sdiff_empty]; refine (congrArg (fun S => bigSep S _) (Rd_duties wb hb c k r)).trans ?_; exact BI.bigSep_congr fun d _ => Rd_payload wb hb c k r d)) $$ Hp

/-- A cell whose rounds are over closes: its counter, at zero, is its device's. -/
theorem step_close (K : Dev nD × Kd → ℕ) (c : Dev nD) (k : Kd) (r : ℕ) (hr : ∀ r' ≥ r, dutiesK c k r' = ∅) :
    iprop(Rec wb hb K ∗ atPos ER (kcell (c, k)) r ∅ 0) ⊢ |={Set.univ}=> (semVal (kcell (c, k)) 0 : sProp 𝕄) := by
  iintro ⟨#HR, Hat⟩
  iapply (Rounds.cell_close ER (Rd wb hb) (Set.mem_univ (K (c, k))) (fun h => h) (R := r) (fun r' h => (Rd_duties wb hb c k r').trans (hr r' h)))
  isplitr; · iapply (Rec_inv wb hb K (c, k)) $$ HR
  iexact Hat

end Cert.KernelIdeal.Talk
-- ==== Proof.Views.lean ====
/-
  What the body's views of its buffers are: the slots and half slots of the landing buffers, the rows of the table of
  counts; what they read, what a copy through them writes, and the semaphores the body names.
-/
module

public import proofs.«01_k».proof.Proof.Steps

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Slot `k` of a landing buffer, as the body names it. -/
abbrev slotM (b : Memref sig .tc .vmem S2x4x512x1024 .bf16) (k : ℕ) (inb : ∀ a, (![k, 0, 0, 0] : Fin 4 → ℕ) a + S1x4x512x1024.size a ≤ S2x4x512x1024.size a) :
    Memref sig .tc .vmem S4x512x1024 .bf16 :=
  (b.slice (Rect.unit (s := S2x4x512x1024) ![k, 0, 0, 0] S1x4x512x1024.size inb) (fun _ => rfl)).squeeze S4x512x1024 squeezes_S1x4x512x1024_S4x512x1024

/-- Two experts of slot `k` from expert `e` on. -/
abbrev halfM (b : Memref sig .tc .vmem S2x4x512x1024 .bf16) (k e : ℕ) (inb : ∀ a, (![k, e, 0, 0] : Fin 4 → ℕ) a + S1x2x512x1024.size a ≤ S2x4x512x1024.size a) :
    Memref sig .tc .vmem S2x512x1024 .bf16 :=
  (b.slice (Rect.unit (s := S2x4x512x1024) ![k, e, 0, 0] S1x2x512x1024.size inb) (fun _ => rfl)).squeeze S2x512x1024 squeezes_S1x2x512x1024_S2x512x1024

/-- A row of the table of counts. -/
abbrev rowM (b : Memref sig .tc .vmem S8x32 .f32) (off : Fin 2 → ℕ) (inb : ∀ a, off a + S1x32.size a ≤ S8x32.size a) : Memref sig .tc .vmem S1x32 .f32 :=
  b.slice (Rect.unit (s := S8x32) off S1x32.size inb) (fun _ => rfl)

theorem mem_slotS {k : ℕ} {i : S2x4x512x1024.Idx} : i ∈ slotS k ↔ (i 0).val = k := by
  unfold slotS; rw [Finset.mem_filter]; exact and_iff_right (Finset.mem_univ i)
theorem mem_halfS {s : Side} {k : ℕ} {i : S2x4x512x1024.Idx} : i ∈ halfS s k ↔ (i 0).val = k ∧ inHalf s (i 1).val := by
  unfold halfS; rw [Finset.mem_filter, mem_slotS]
theorem mem_rowS {p : ℕ} {i : S8x32.Idx} : i ∈ rowS p ↔ (i 0).val = p := by
  unfold rowS; rw [Finset.mem_filter]; exact and_iff_right (Finset.mem_univ i)

/-- The elements of a slot's rectangle, -/
theorem slot_set (k : ℕ) (inb : ∀ a, (![k, 0, 0, 0] : Fin 4 → ℕ) a + S1x4x512x1024.size a ≤ S2x4x512x1024.size a) :
    (Rect.unit (s := S2x4x512x1024) ![k, 0, 0, 0] S1x4x512x1024.size inb).set = slotS k := by
  ext i
  rw [Rect.mem_set_unit, mem_slotS]
  have h1 := (i 1).isLt; have h2 := (i 2).isLt; have h3 := (i 3).isLt
  refine ⟨fun h => ?_, fun h a => ?_⟩
  · have h0 : k ≤ (i 0).val ∧ (i 0).val < k + 1 := h 0
    omega
  · fin_cases a
    · show k ≤ (i 0).val ∧ (i 0).val < k + 1; omega
    · exact ⟨Nat.zero_le _, (Nat.zero_add _).symm ▸ h1⟩
    · exact ⟨Nat.zero_le _, (Nat.zero_add _).symm ▸ h2⟩
    · exact ⟨Nat.zero_le _, (Nat.zero_add _).symm ▸ h3⟩

/-- of half a slot's, -/
theorem half_set (s : Side) (k e : ℕ) (he : e = match s with | .r => 0 | .l => 2)
    (inb : ∀ a, (![k, e, 0, 0] : Fin 4 → ℕ) a + S1x2x512x1024.size a ≤ S2x4x512x1024.size a) :
    (Rect.unit (s := S2x4x512x1024) ![k, e, 0, 0] S1x2x512x1024.size inb).set = halfS s k := by
  ext i
  rw [Rect.mem_set_unit, mem_halfS]
  have h1 : (i 1).val < 4 := (i 1).isLt
  have h2 := (i 2).isLt; have h3 := (i 3).isLt
  have hh : inHalf s (i 1).val ↔ e ≤ (i 1).val ∧ (i 1).val < e + 2 := by
    subst he; cases s
    · show (i 1).val < 2 ↔ 0 ≤ (i 1).val ∧ (i 1).val < 0 + 2; omega
    · show 2 ≤ (i 1).val ↔ 2 ≤ (i 1).val ∧ (i 1).val < 2 + 2; omega
  rw [hh]
  refine ⟨fun h => ?_, fun h a => ?_⟩
  · have h0 : k ≤ (i 0).val ∧ (i 0).val < k + 1 := h 0
    exact ⟨by omega, h 1⟩
  · fin_cases a
    · show k ≤ (i 0).val ∧ (i 0).val < k + 1; omega
    · exact h.2
    · exact ⟨Nat.zero_le _, (Nat.zero_add _).symm ▸ h2⟩
    · exact ⟨Nat.zero_le _, (Nat.zero_add _).symm ▸ h3⟩

/-- of a row's. -/
theorem row_set (p : ℕ) (off : Fin 2 → ℕ) (ho : off = ![p, 0]) (inb : ∀ a, off a + S1x32.size a ≤ S8x32.size a) :
    (Rect.unit (s := S8x32) off S1x32.size inb).set = rowS p := by
  subst ho
  ext i
  rw [Rect.mem_set_unit, mem_rowS]
  have h1 := (i 1).isLt
  refine ⟨fun h => ?_, fun h a => ?_⟩
  · have h0 : p ≤ (i 0).val ∧ (i 0).val < p + 1 := h 0
    omega
  · fin_cases a
    · show p ≤ (i 0).val ∧ (i 0).val < p + 1; omega
    · exact ⟨Nat.zero_le _, (Nat.zero_add _).symm ▸ h1⟩

/-- Where a slot's view puts an index, -/
theorem slot_emb (k : ℕ) (inb) (h : S4x512x1024.numel = S1x4x512x1024.numel) (x : S4x512x1024.Idx) (a : Fin 3) :
    (((Rect.unit (s := S2x4x512x1024) ![k, 0, 0, 0] S1x4x512x1024.size inb).emb (Shape.reshapeEquiv h x)) a.succ).val = (x a).val := by
  rw [show Shape.reshapeEquiv h x = Fin.cons ⟨0, Nat.one_pos⟩ x from Shape.reshapeEquiv_cons_one h x, Rect.emb_apply]
  fin_cases a <;> exact (Nat.zero_add _).trans (Nat.one_mul _)
/-- and where half a slot's does. -/
theorem half_emb (k e : ℕ) (inb) (h : S2x512x1024.numel = S1x2x512x1024.numel) (x : S2x512x1024.Idx) (a : Fin 3) :
    (((Rect.unit (s := S2x4x512x1024) ![k, e, 0, 0] S1x2x512x1024.size inb).emb (Shape.reshapeEquiv h x)) a.succ).val = (![e, 0, 0] : Fin 3 → ℕ) a + (x a).val := by
  rw [show Shape.reshapeEquiv h x = Fin.cons ⟨0, Nat.one_pos⟩ x from Shape.reshapeEquiv_cons_one h x, Rect.emb_apply]
  fin_cases a <;> exact congrArg _ (Nat.one_mul _)

/-- The landing buffer of a stream. -/
abbrev bufM : Side → Memref sig .tc .vmem S2x4x512x1024 .bf16
  | .r => Memref.whole cc0_scratch2
  | .l => Memref.whole cc0_scratch3

theorem slot_pts_r (k : ℕ) (inb) (c : Dev nD) (q : PosShare TreeShare) (f : Vec F S2x4x512x1024 .bf16) :
    ((slotM (bufM .r) k inb).view.loc (c : Thread nD τ) ↦[(slotM (bufM .r) k inb).view.set]{q} f : sProp 𝕄) = bufPts c .r (slotS k) q f :=
  congrArg (fun I => ((c : Thread nD τ).loc cc0_scratch2 ↦[I]{q} f : sProp 𝕄))
    (((View.set_reshape _ _).trans (View.set_slice_whole _ _)).trans (slot_set k inb))
theorem slot_pts_l (k : ℕ) (inb) (c : Dev nD) (q : PosShare TreeShare) (f : Vec F S2x4x512x1024 .bf16) :
    ((slotM (bufM .l) k inb).view.loc (c : Thread nD τ) ↦[(slotM (bufM .l) k inb).view.set]{q} f : sProp 𝕄) = bufPts c .l (slotS k) q f :=
  congrArg (fun I => ((c : Thread nD τ).loc cc0_scratch3 ↦[I]{q} f : sProp 𝕄))
    (((View.set_reshape _ _).trans (View.set_slice_whole _ _)).trans (slot_set k inb))
theorem half_pts_r (k : ℕ) (inb) (c : Dev nD) (q : PosShare TreeShare) (f : Vec F S2x4x512x1024 .bf16) :
    ((halfM (bufM .r) k 0 inb).view.loc (c : Thread nD τ) ↦[(halfM (bufM .r) k 0 inb).view.set]{q} f : sProp 𝕄) = bufPts c .r (halfS .r k) q f :=
  congrArg (fun I => ((c : Thread nD τ).loc cc0_scratch2 ↦[I]{q} f : sProp 𝕄))
    (((View.set_reshape _ _).trans (View.set_slice_whole _ _)).trans (half_set .r k 0 rfl inb))
theorem half_pts_l (k : ℕ) (inb) (c : Dev nD) (q : PosShare TreeShare) (f : Vec F S2x4x512x1024 .bf16) :
    ((halfM (bufM .l) k 2 inb).view.loc (c : Thread nD τ) ↦[(halfM (bufM .l) k 2 inb).view.set]{q} f : sProp 𝕄) = bufPts c .l (halfS .l k) q f :=
  congrArg (fun I => ((c : Thread nD τ).loc cc0_scratch3 ↦[I]{q} f : sProp 𝕄))
    (((View.set_reshape _ _).trans (View.set_slice_whole _ _)).trans (half_set .l k 2 rfl inb))
theorem row_pts (p : ℕ) (off : Fin 2 → ℕ) (ho : off = ![p, 0]) (inb) (c : Dev nD) (q : PosShare TreeShare) (f : Vec F S8x32 .f32) :
    ((rowM (Memref.whole cc0_scratch0) off inb).view.loc (c : Thread nD τ) ↦[(rowM (Memref.whole cc0_scratch0) off inb).view.set]{q} f : sProp 𝕄) = hisPts c (rowS p) q f :=
  congrArg (fun I => ((c : Thread nD τ).loc cc0_scratch0 ↦[I]{q} f : sProp 𝕄)) ((View.set_slice_whole _ _).trans (row_set p off ho inb))

/-! ## What is read and written -/

/-- A buffer written through a view holds, under the view, any contents that agree there with what was written. -/
theorem write_pts {sp : Space} {s : Shape} {e : EltTy} (v : View sig .tc sp s e) (c : Dev nD) (fd : v.ty.Contents (Elt F)) (w : s.Idx → Elt F e) (g : v.ty.Contents (Elt F))
    (h : ∀ x, _root_.cast (congrArg (Elt F) v.elt_eq.symm) (w x) = g (v.emb x)) :
    (v.loc (c : Thread nD τ) ↦[v.set]{fullShare} (v.write (Elt F) fd w Finset.univ) : sProp 𝕄) = (v.loc (c : Thread nD τ) ↦[v.set]{fullShare} g) :=
  pointsTo_congr fun i hi => by
    obtain ⟨x, -, rfl⟩ := Finset.mem_map.mp hi
    rw [View.write_emb_of_mem _ _ (Finset.mem_univ x)]; exact h x

/-- A slot of spread-out experts reads as the experts. -/
theorem spread_slot (w : Vec F S4x512x1024 .bf16) (k : ℕ) (inb) (h : S4x512x1024.numel = S1x4x512x1024.numel) (x : S4x512x1024.Idx) :
    spread w ((Rect.unit (s := S2x4x512x1024) ![k, 0, 0, 0] S1x4x512x1024.size inb).emb (Shape.reshapeEquiv h x)) = w x :=
  congrArg w (funext fun a => Fin.ext (slot_emb k inb h x a))
/-- Half of one slot of spread-out experts reads as the same half of another. -/
theorem spread_half (w : Vec F S4x512x1024 .bf16) (k k' e : ℕ) (inb) (inb') (h : S2x512x1024.numel = S1x2x512x1024.numel) (x : S2x512x1024.Idx) :
    spread w ((Rect.unit (s := S2x4x512x1024) ![k, e, 0, 0] S1x2x512x1024.size inb).emb (Shape.reshapeEquiv h x))
      = spread w ((Rect.unit (s := S2x4x512x1024) ![k', e, 0, 0] S1x2x512x1024.size inb').emb (Shape.reshapeEquiv h x)) :=
  congrArg w (funext fun a => Fin.ext ((half_emb k e inb h x a).trans (half_emb k' e inb' h x a).symm))

theorem read_slot_r (w : Vec F S4x512x1024 .bf16) (k : ℕ) (inb) : (slotM (bufM .r) k inb).view.read (Elt F) (spread w) = w :=
  funext fun x => spread_slot w k inb _ x
theorem read_slot_l (w : Vec F S4x512x1024 .bf16) (k : ℕ) (inb) : (slotM (bufM .l) k inb).view.read (Elt F) (spread w) = w :=
  funext fun x => spread_slot w k inb _ x

/-- Experts landed in a slot. -/
theorem land_slot_r (k : ℕ) (inb) (c : Dev nD) (fd : Vec F S2x4x512x1024 .bf16) (w : Vec F S4x512x1024 .bf16) :
    ((slotM (bufM .r) k inb).view.loc (c : Thread nD τ) ↦[(slotM (bufM .r) k inb).view.set]{fullShare} ((slotM (bufM .r) k inb).view.write (Elt F) fd w Finset.univ) : sProp 𝕄)
      = bufPts c .r (slotS k) fullShare (spread w) :=
  (write_pts (slotM (bufM .r) k inb).view c fd w (spread w) fun x => (spread_slot w k inb _ x).symm).trans (slot_pts_r k inb c fullShare (spread w))
theorem land_slot_l (k : ℕ) (inb) (c : Dev nD) (fd : Vec F S2x4x512x1024 .bf16) (w : Vec F S4x512x1024 .bf16) :
    ((slotM (bufM .l) k inb).view.loc (c : Thread nD τ) ↦[(slotM (bufM .l) k inb).view.set]{fullShare} ((slotM (bufM .l) k inb).view.write (Elt F) fd w Finset.univ) : sProp 𝕄)
      = bufPts c .l (slotS k) fullShare (spread w) :=
  (write_pts (slotM (bufM .l) k inb).view c fd w (spread w) fun x => (spread_slot w k inb _ x).symm).trans (slot_pts_l k inb c fullShare (spread w))
/-- Half of a slot landed in half of the other. -/
theorem land_half_r (inb inb') (c : Dev nD) (fd : Vec F S2x4x512x1024 .bf16) (w : Vec F S4x512x1024 .bf16) :
    ((halfM (bufM .r) 0 0 inb).view.loc (c : Thread nD τ) ↦[(halfM (bufM .r) 0 0 inb).view.set]{fullShare}
        ((halfM (bufM .r) 0 0 inb).view.write (Elt F) fd ((halfM (bufM .r) 1 0 inb').view.read (Elt F) (spread w)) Finset.univ) : sProp 𝕄)
      = bufPts c .r (halfS .r 0) fullShare (spread w) :=
  (write_pts (halfM (bufM .r) 0 0 inb).view c fd _ (spread w) fun x => spread_half w 1 0 0 inb' inb _ x).trans (half_pts_r 0 inb c fullShare (spread w))
theorem land_half_l (inb inb') (c : Dev nD) (fd : Vec F S2x4x512x1024 .bf16) (w : Vec F S4x512x1024 .bf16) :
    ((halfM (bufM .l) 0 2 inb).view.loc (c : Thread nD τ) ↦[(halfM (bufM .l) 0 2 inb).view.set]{fullShare}
        ((halfM (bufM .l) 0 2 inb).view.write (Elt F) fd ((halfM (bufM .l) 1 2 inb').view.read (Elt F) (spread w)) Finset.univ) : sProp 𝕄)
      = bufPts c .l (halfS .l 0) fullShare (spread w) :=
  (write_pts (halfM (bufM .l) 0 2 inb).view c fd _ (spread w) fun x => spread_half w 1 0 2 inb' inb _ x).trans (half_pts_l 0 inb c fullShare (spread w))

/-- Experts as the body loads a slot of them, -/
noncomputable def up4 (w : Vec F S4x512x1024 .bf16) : Vec F S1x4x512x1024 .bf16 := fun i => w (fun a => i a.succ)
/-- and as it loads half a slot. -/
noncomputable def up2 (e : ℕ) (inb : ∀ a, (![0, e, 0, 0] : Fin 4 → ℕ) a + S1x2x512x1024.size a ≤ S2x4x512x1024.size a) (w : Vec F S4x512x1024 .bf16) : Vec F S1x2x512x1024 .bf16 :=
  fun i => spread w ((Rect.unit (s := S2x4x512x1024) ![0, e, 0, 0] S1x2x512x1024.size inb).emb i)

theorem spread_up (w : Vec F S4x512x1024 .bf16) (k : ℕ) (inb) (i : S1x4x512x1024.Idx) :
    spread w ((Rect.unit (s := S2x4x512x1024) ![k, 0, 0, 0] S1x4x512x1024.size inb).emb i) = up4 w i :=
  congrArg w (funext fun a => Fin.ext (by rw [Rect.emb_apply]; fin_cases a <;> exact (Nat.zero_add _).trans (Nat.one_mul _)))

theorem load_slot_r (w : Vec F S4x512x1024 .bf16) (k : ℕ) (inb) :
    (bufM .r).view.readAt (Elt F) (Rect.unit (s := S2x4x512x1024) ![k, 0, 0, 0] S1x4x512x1024.size inb).toLoadRect (spread w) = up4 w :=
  funext fun i => spread_up w k inb i
theorem load_slot_l (w : Vec F S4x512x1024 .bf16) (k : ℕ) (inb) :
    (bufM .l).view.readAt (Elt F) (Rect.unit (s := S2x4x512x1024) ![k, 0, 0, 0] S1x4x512x1024.size inb).toLoadRect (spread w) = up4 w :=
  funext fun i => spread_up w k inb i

/-- The elements a load of a slot reads. -/
theorem load_slot_set_r (k : ℕ) (inb) : (bufM .r).view.setOn (Rect.unit (s := S2x4x512x1024) ![k, 0, 0, 0] S1x4x512x1024.size inb).toLoadRect.set ⊆ slotS k := by
  rw [← slot_set k inb]; exact subset_of_eq (Finset.map_refl)
theorem load_slot_set_l (k : ℕ) (inb) : (bufM .l).view.setOn (Rect.unit (s := S2x4x512x1024) ![k, 0, 0, 0] S1x4x512x1024.size inb).toLoadRect.set ⊆ slotS k := by
  rw [← slot_set k inb]; exact subset_of_eq (Finset.map_refl)
theorem load_half_set_r (inb) : (bufM .r).view.setOn (Rect.unit (s := S2x4x512x1024) ![0, 0, 0, 0] S1x2x512x1024.size inb).toLoadRect.set ⊆ halfS .r 0 := by
  rw [← half_set .r 0 0 rfl inb]; exact subset_of_eq (Finset.map_refl)
theorem load_half_set_l (inb) : (bufM .l).view.setOn (Rect.unit (s := S2x4x512x1024) ![0, 2, 0, 0] S1x2x512x1024.size inb).toLoadRect.set ⊆ halfS .l 0 := by
  rw [← half_set .l 0 2 rfl inb]; exact subset_of_eq (Finset.map_refl)

/-- The table of counts with the given rows. -/
noncomputable def tbl (R : Dev nD → Vec F S1x32 .f32) : Vec F S8x32 .f32 := fun i => R (i 0) (Fin.cons ⟨0, Nat.one_pos⟩ (fun a : Fin 1 => i a.succ))

/-- A row's view of the table, -/
theorem tbl_row (R : Dev nD → Vec F S1x32 .f32) (p : Dev nD) (off : Fin 2 → ℕ) (ho : off = ![p.val, 0]) (inb) (x : S1x32.Idx) :
    tbl R ((Rect.unit (s := S8x32) off S1x32.size inb).emb x) = R p x := by
  subst ho
  have h0 : (x 0).val = 0 := Nat.lt_one_iff.mp (x 0).isLt
  have e0 : ((Rect.unit (s := S8x32) ![p.val, 0] S1x32.size inb).emb x) 0 = p := Fin.ext (by
    rw [Rect.emb_apply]; show p.val + 1 * (x 0).val = p.val; omega)
  unfold tbl
  rw [e0]
  refine congrArg (R p) (funext fun a => Fin.ext ?_)
  fin_cases a
  · exact h0.symm
  · show (((Rect.unit (s := S8x32) ![p.val, 0] S1x32.size inb).emb x) 1).val = (x 1).val
    rw [Rect.emb_apply]; exact (Nat.zero_add _).trans (Nat.one_mul _)

/-- the row's own device storing it, -/
theorem store_row (R : Dev nD → Vec F S1x32 .f32) (p c : Dev nD) (off : Fin 2 → ℕ) (ho : off = ![p.val, 0]) (inb) (fd : Vec F S8x32 .f32) :
    ((c : Thread nD τ).loc cc0_scratch0 ↦[rowS p.val]{fullShare} (((Memref.whole cc0_scratch0 : Memref sig .tc .vmem S8x32 .f32).access (Rect.unit (s := S8x32) off S1x32.size inb)).write (Elt F) fd (R p) Finset.univ) : sProp 𝕄)
      = hisPts c (rowS p.val) fullShare (tbl R) := by
  rw [← row_pts p.val off ho inb]
  have hset : rowS p.val = ((Memref.whole cc0_scratch0 : Memref sig .tc .vmem S8x32 .f32).access (Rect.unit (s := S8x32) off S1x32.size inb)).set :=
    ((View.set_slice_whole _ _).trans (row_set p.val off ho inb)).symm
  rw [hset]
  exact write_pts ((Memref.whole cc0_scratch0 : Memref sig .tc .vmem S8x32 .f32).access (Rect.unit (s := S8x32) off S1x32.size inb)) c fd (R p) (tbl R) fun x => (tbl_row R p off ho inb x).symm

/-- and a copy landing it. -/
theorem land_row (hb : Vec F S8x32 .f32) (p : ℕ) (off : Fin 2 → ℕ) (ho : off = ![p, 0]) (inb) (c : Dev nD) (fd : Vec F S8x32 .f32) :
    ((rowM (Memref.whole cc0_scratch0) off inb).view.loc (c : Thread nD τ) ↦[(rowM (Memref.whole cc0_scratch0) off inb).view.set]{fullShare}
        ((rowM (Memref.whole cc0_scratch0) off inb).view.write (Elt F) fd ((rowM (Memref.whole cc0_scratch0) off inb).view.read (Elt F) hb) Finset.univ) : sProp 𝕄)
      = hisPts c (rowS p) fullShare hb :=
  (write_pts (rowM (Memref.whole cc0_scratch0) off inb).view c fd _ hb fun _ => rfl).trans (row_pts p off ho inb c fullShare hb)

/-! ## Cutting and joining -/

theorem buf_cut (c : Dev nD) (s : Side) {I J : Finset S2x4x512x1024.Idx} (h : I ⊆ J) (q : PosShare TreeShare) (f : Vec F S2x4x512x1024 .bf16) :
    bufPts c s J q f ⊣⊢ iprop(bufPts c s I q f ∗ bufPts c s (J \ I) q f) := by
  cases s <;> exact pointsTo_split_subset h
theorem buf_share (c : Dev nD) (s : Side) (I : Finset S2x4x512x1024.Idx) (q : PosShare TreeShare) (f : Vec F S2x4x512x1024 .bf16) :
    bufPts c s I q f ⊣⊢ iprop(bufPts c s I q.left f ∗ bufPts c s I q.right f) := by
  cases s <;> exact pointsTo_share (PosShare.mem_left_op_right q)
theorem buf_join (c : Dev nD) (s : Side) {I J : Finset S2x4x512x1024.Idx} (h : I ⊆ J) (q : PosShare TreeShare) (f g : Vec F S2x4x512x1024 .bf16) :
    iprop(bufPts c s I q f ∗ bufPts c s (J \ I) q g) ⊢ iprop(∃ f', bufPts c s J q f') := by
  cases s
  · exact (pointsTo_join_subset h).trans (exists_intro (Φ := fun f' => (bufPts c .r J q f' : sProp 𝕄)) _)
  · exact (pointsTo_join_subset h).trans (exists_intro (Φ := fun f' => (bufPts c .l J q f' : sProp 𝕄)) _)

/-- What is not slot 1 is slot 0. -/
theorem slot_compl : (Finset.univ : Finset S2x4x512x1024.Idx) \ slotS 1 = slotS 0 := by
  ext i
  have : (i 0).val < 2 := (i 0).isLt
  rw [Finset.mem_sdiff, mem_slotS, mem_slotS]
  exact ⟨fun h => by omega, fun h => ⟨Finset.mem_univ i, by omega⟩⟩
theorem half_sub (s : Side) (k : ℕ) : halfS s k ⊆ slotS k := Finset.filter_subset _ _

end Cert.KernelIdeal.Talk
-- ==== Proof.Guards.lean ====
/-
  The body's guarded steps — a device says nothing to itself —, each once for every peer: the barrier signals, the copies
  of the rows of counts, the waits for them.
-/
module

public import proofs.«01_k».proof.Proof.Views

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

/-! ## The conditions -/

/-- What a device brings for its barrier signal to `p`: the token of the duty, and what it hands over. -/
noncomputable def BarOut (c p : Dev nD) : sProp 𝕄 := if p = c then iprop(emp) else iprop(dutyTok ER (kcell (p, .bar)) 0 c ∗ barPay (F := F) p c)

/-- What it brings for the copy of its row of counts to `p`: both tokens, its row, and `p`'s row for it. -/
noncomputable def RowOut (c p : Dev nD) : sProp 𝕄 :=
  if p = c then iprop(emp) else iprop(dutyTok ER (kcell (c, .hs p)) 0 0 ∗ dutyTok ER (kcell (p, .hr c)) 0 0
    ∗ hisPts c (rowS c.val) (rowShare p) hb ∗ ∃ f, hisPts (F := F) p (rowS c.val) fullShare f)

/-- The credit of the copy's read-out. -/
noncomputable def RowCred (c p : Dev nD) : sProp 𝕄 := if p = c then iprop(emp) else iprop(cred (tallyAt (kcell (c, .hs p)) 0 nRow))
/-- The credit of the landing of `p`'s row here. -/
noncomputable def RowDue (c p : Dev nD) : sProp 𝕄 := if p = c then iprop(emp) else iprop(cred (tallyAt (kcell (c, .hr p)) 0 nRow))
/-- The two cells of the rows exchanged with `p`, at the start of round 0, -/
noncomputable def RowAt (c p : Dev nD) : sProp 𝕄 := iprop(atPos ER (kcell (c, .hs p)) 0 ∅ 0 ∗ atPos ER (kcell (c, .hr p)) 0 ∅ 0)
/-- and when the waits are over, -/
noncomputable def RowEnd (c p : Dev nD) : sProp 𝕄 :=
  iprop(atPos ER (kcell (c, .hs p)) (if p = c then 0 else 1) ∅ 0 ∗ atPos ER (kcell (c, .hr p)) (if p = c then 0 else 1) ∅ 0)
/-- with what they brought: the share of the own row back, and `p`'s row. -/
noncomputable def RowIn (c p : Dev nD) : sProp 𝕄 := if p = c then iprop(emp) else iprop(hisPts c (rowS c.val) (rowShare p) hb ∗ hisPts c (rowS p.val) fullShare hb)

/-- A guarded signal of the barrier. -/
theorem guard_bar (K : Dev nD × Kd → ℕ) (c p : Dev nD) {C : Prop} [Decidable C] (hC : C ↔ p ≠ c) {n : C → Dev nD} (hn : ∀ h, n h = p)
    {sem : Sem sig} (hs : SemLoc.reg sem = csem .bar) (l : List Due) {k : Prog (TpuEff nD τ sig (Elt F) Λ₀ .tc) α} {Q : α → sProp 𝕄} :
    iprop(Rec wb hb K ∗ Owes c (dBar c p :: l) ∗ BarOut c p)
      ⊢ iprop((Owes c l -∗ run c k Q) -∗ run c (dite C (fun h => semSignalWord (n h : Dev nD) sem 1#32 >>= fun _ => k) (fun _ => k)) Q) := by
  by_cases h : C
  · have hne : p ≠ c := hC.mp h
    rw [dif_pos h]
    unfold BarOut dBar
    rw [if_neg hne, if_neg hne]
    iintro ⟨#HR, HO, Ht, Hp⟩ Hk
    iapply (step_signal wb hb K c p (hn h) .bar hs 0 0 c (Finset.mem_erase.mpr ⟨hne.symm, Finset.mem_univ c⟩) (v := 1) rfl l (kont := fun _ => k)) $$ [HO Ht Hp]
    · isplitr; · iexact HR
      isplitl [HO]; · iexact HO
      isplitl [Ht]; · iexact Ht
      isplitl [Hp]; · iapply (Entails.of_eq (show barPay p c = payloadK wb hb p .bar 0 c from rfl)) $$ Hp
      iapply (Rec_reached wb hb K (p, .bar)) $$ HR
    iexact Hk
  · have he : p = c := by by_contra hne; exact h (hC.mpr hne)
    rw [dif_neg h]
    iintro ⟨-, HO, -⟩ Hk
    iapply Hk
    iapply (Owes_skip c (dBar c p) l (if_pos he)) $$ HO

/-- A guarded copy of the own row of counts. -/
theorem guard_row (K : Dev nD × Kd → ℕ) (c p : Dev nD) {C : Prop} [Decidable C] (hC : C ↔ p ≠ c) {n : C → Dev nD} (hn : ∀ h, n h = p)
    {sS : DmaSem sig} (hS : SemLoc.dma sS = csem (.hs p)) {sV : C → DmaSem sig} (hV : ∀ h, SemLoc.dma (sV h) = csem (.hr c))
    (off : Fin 2 → ℕ) (ho : off = ![c.val, 0]) (inb : C → ∀ a, off a + S1x32.size a ≤ S8x32.size a)
    {hsc : ∀ h, (rowM (Memref.whole cc0_scratch0) off (inb h)).view.ref.isScScratch = false} {hsrc : ∀ h, (rowM (Memref.whole cc0_scratch0) off (inb h)).view.WordExact}
    {hdst : ∀ h, (rowM (Memref.whole cc0_scratch0) off (inb h)).view.WordExact}
    {hsem : ∀ h, DmaTarget.Typed .vmem (SemLoc.dma (sV h)) (.remote (Dev.tc (n h)) (rowM (Memref.whole cc0_scratch0) off (inb h)) (.dma sS) (hsc h))}
    (l : List Due) {k : Prog (TpuEff nD τ sig (Elt F) Λ₀ .tc) α} {Q : α → sProp 𝕄} :
    iprop(Rec wb hb K ∗ Owes c (dRow c p :: l) ∗ RowOut hb c p)
      ⊢ iprop(((Owes c l ∗ RowCred c p) -∗ run c k Q)
          -∗ run c (dite C (fun h => Prog.lift (.enqueueDma (rowM (Memref.whole cc0_scratch0) off (inb h)) (.remote (Dev.tc (n h)) (rowM (Memref.whole cc0_scratch0) off (inb h)) (.dma sS) (hsc h)) (.dma (sV h)) (hsrc h) (hdst h) (hsem h)) >>= fun _ => k) (fun _ => k)) Q) := by
  by_cases h : C
  · have hne : p ≠ c := hC.mp h
    rw [dif_pos h]
    unfold RowOut RowCred dRow
    rw [if_neg hne, if_neg hne, if_neg hne]
    iintro ⟨#HR, HO, HtS, HtV, Hs, ⟨%f, Hd⟩⟩ Hk
    iapply (step_send wb hb K c p (hn h) (.hs p) (.hr c) hS (hV h) (hsc := hsc h) (hsrc := hsrc h) (hdst := hdst h) (hsem := hsem h) 0 0
      (show (0 : Dev nD) ∈ (if p = c then ∅ else {0}) by rw [if_neg hne]; exact Finset.mem_singleton_self _)
      (show (0 : Dev nD) ∈ (if c = p then ∅ else {0}) by rw [if_neg hne.symm]; exact Finset.mem_singleton_self _) nRow rfl rfl rfl
      (q := rowShare p) (fs := hb) (fd := f) iprop(emp)
      (Entails.of_eq (row_pts c.val off ho (inb h) c (rowShare p) hb))
      (BI.sep_emp.1.trans (Entails.of_eq (land_row hb c.val off ho (inb h) p f))) 0 l (kont := fun _ => k)) $$ [HO HtS HtV Hs Hd]
    · rw [row_pts c.val off ho (inb h) c (rowShare p) hb, row_pts c.val off ho (inb h) p fullShare f]
      iclose
    iintro ⟨Hc, HO⟩
    iapply Hk
    iclose
  · have he : p = c := by by_contra hne; exact h (hC.mpr hne)
    rw [dif_neg h]
    unfold RowCred
    rw [if_pos he]
    iintro ⟨-, HO, -⟩ Hk
    iapply Hk
    isplitl [HO]
    · iapply (Owes_skip c (dRow c p) l (if_pos he)) $$ HO
    iempintro

/-- What a round with one duty brings. -/
theorem duty_one (c : Dev nD) (k : Kd) (r : ℕ) (h : dutiesK c k r = {0}) {P : sProp 𝕄} (hP : payloadK wb hb c k r 0 = P) :
    bigSep (dutiesK c k r) (fun d => payloadK wb hb c k r d) = P := by
  rw [h, bigSep_singleton, hP]

/-- A guarded pair of waits: for the copy of the own row to have been read, and for the peer's row to have landed. -/
theorem guard_in (K : Dev nD × Kd → ℕ) (c p : Dev nD) {C : Prop} [Decidable C] (hC : C ↔ p ≠ c)
    {s₁ s₂ : DmaSem sig} (h₁ : SemLoc.dma s₁ = csem (.hs p)) (h₂ : SemLoc.dma s₂ = csem (.hr p))
    {off : Fin 2 → ℕ} {inb : ∀ a, off a + S1x32.size a ≤ S8x32.size a}
    {w₁ w₂ w₃ w₄ : (rowM (Memref.whole cc0_scratch0) off inb).view.WordExact}
    (l : List Due) (hl : below 2 l = true) {k : Prog (TpuEff nD τ sig (Elt F) Λ₀ .tc) α} {Q : α → sProp 𝕄} :
    iprop(Rec wb hb K ∗ Owes c l ∗ RowAt c p ∗ RowCred c p ∗ RowDue c p)
      ⊢ iprop(((Owes c l ∗ RowEnd c p ∗ RowIn hb c p) -∗ run c k Q)
          -∗ run c (dite C (fun _ => Prog.lift (.waitDma2 s₁ (rowM (Memref.whole cc0_scratch0) off inb) (rowM (Memref.whole cc0_scratch0) off inb) w₁ w₂) >>= fun _ =>
              Prog.lift (.waitDma2 s₂ (rowM (Memref.whole cc0_scratch0) off inb) (rowM (Memref.whole cc0_scratch0) off inb) w₃ w₄) >>= fun _ => k) (fun _ => k)) Q) := by
  have hl0 : below 0 l = true := by
    refine List.all_eq_true.mpr fun e he => ?_
    have := List.all_eq_true.mp hl e he
    rw [Bool.and_eq_true] at this ⊢
    exact ⟨Nat.blt_eq.mpr (lt_trans (by decide) (Nat.blt_eq.mp this.1)), this.2⟩
  by_cases h : C
  · have hne : p ≠ c := hC.mp h
    rw [dif_pos h]
    unfold RowAt RowCred RowDue RowEnd RowIn
    simp only [if_neg hne]
    iintro ⟨#HR, HO, ⟨Ha, Hb⟩, Hc, Hd⟩ Hk
    iapply (step_wait wb hb K c (.hs p) (v := nRow) (w := .waitDma2 s₁ (rowM (Memref.whole cc0_scratch0) off inb) (rowM (Memref.whole cc0_scratch0) off inb) w₁ w₂) (fun P => rfl) h₁ 0 0
      (by show _ = (if p = c then ∅ else {(0 : Dev nD)} : Finset (Dev nD)).card * nRow; rw [if_neg hne, Finset.card_singleton, Nat.one_mul]) (by decide) l hl0) $$ [HO Ha Hc]
    · iclose
    iintro ⟨HO, Ha, -, Hs⟩
    iapply (step_wait wb hb K c (.hr p) (v := nRow) (w := .waitDma2 s₂ (rowM (Memref.whole cc0_scratch0) off inb) (rowM (Memref.whole cc0_scratch0) off inb) w₃ w₄) (fun P => rfl) h₂ 0 0
      (by show _ = (if p = c then ∅ else {(0 : Dev nD)} : Finset (Dev nD)).card * nRow; rw [if_neg hne, Finset.card_singleton, Nat.one_mul]) (by decide) l hl) $$ [HO Hb Hd]
    · iclose
    iintro ⟨HO, Hb, -, Hr⟩
    iapply Hk
    isplitl [HO]; · iexact HO
    isplitl [Ha Hb]; · iclose
    isplitl [Hs]
    · iapply (Entails.of_eq (duty_one wb hb c (.hs p) 0 (if_neg hne) (show payloadK wb hb c (.hs p) 0 0 = hisPts c (rowS c.val) (rowShare p) hb from rfl))) $$ Hs
    · iapply (Entails.of_eq (duty_one wb hb c (.hr p) 0 (if_neg hne) (show payloadK wb hb c (.hr p) 0 0 = hisPts c (rowS p.val) fullShare hb from rfl))) $$ Hr
  · have he : p = c := by by_contra hne; exact h (hC.mpr hne)
    rw [dif_neg h]
    unfold RowAt RowEnd RowIn
    simp only [if_pos he]
    iintro ⟨-, HO, ⟨Ha, Hb⟩, -, -⟩ Hk
    iapply Hk
    isplitl [HO]; · iexact HO
    isplitl [Ha Hb]; · iclose
    iempintro

/-! ## The printed semaphores, peers and rows -/

theorem sem_hs (p : Dev nD) (off : Fin 1 → ℕ) (ho : off = ![p.val]) (inb : ∀ a, off a + S1.size a ≤ S8.size a) :
    SemLoc.dma ((cc0_scratch4.slice (Rect.unit (s := S8) off S1.size inb)).squeeze S_ squeezes_S1_S_).sem = csem (.hs p) := by
  subst ho; revert p; decide
theorem sem_hr (p : Dev nD) (off : Fin 1 → ℕ) (ho : off = ![p.val]) (inb : ∀ a, off a + S1.size a ≤ S8.size a) :
    SemLoc.dma ((cc0_scratch5.slice (Rect.unit (s := S8) off S1.size inb)).squeeze S_ squeezes_S1_S_).sem = csem (.hr p) := by
  subst ho; revert p; decide

theorem cond1 (c : Dev nD) : k0_cond1 c = 1#1 ↔ (0 : Dev nD) ≠ c := by revert c; decide
theorem cond2 (c : Dev nD) : k0_cond2 c = 1#1 ↔ (1 : Dev nD) ≠ c := by revert c; decide
theorem cond3 (c : Dev nD) : k0_cond3 c = 1#1 ↔ (2 : Dev nD) ≠ c := by revert c; decide
theorem cond4 (c : Dev nD) : k0_cond4 c = 1#1 ↔ (3 : Dev nD) ≠ c := by revert c; decide
theorem cond5 (c : Dev nD) : k0_cond5 c = 1#1 ↔ (4 : Dev nD) ≠ c := by revert c; decide
theorem cond6 (c : Dev nD) : k0_cond6 c = 1#1 ↔ (5 : Dev nD) ≠ c := by revert c; decide
theorem cond7 (c : Dev nD) : k0_cond7 c = 1#1 ↔ (6 : Dev nD) ≠ c := by revert c; decide
theorem cond8 (c : Dev nD) : k0_cond8 c = 1#1 ↔ (7 : Dev nD) ≠ c := by revert c; decide
theorem cond9 (c : Dev nD) : k0_cond9 c = 1#1 ↔ (0 : Dev nD) ≠ c := by revert c; decide
theorem cond10 (c : Dev nD) : k0_cond10 c = 1#1 ↔ (1 : Dev nD) ≠ c := by revert c; decide
theorem cond11 (c : Dev nD) : k0_cond11 c = 1#1 ↔ (2 : Dev nD) ≠ c := by revert c; decide
theorem cond12 (c : Dev nD) : k0_cond12 c = 1#1 ↔ (3 : Dev nD) ≠ c := by revert c; decide
theorem cond13 (c : Dev nD) : k0_cond13 c = 1#1 ↔ (4 : Dev nD) ≠ c := by revert c; decide
theorem cond14 (c : Dev nD) : k0_cond14 c = 1#1 ↔ (5 : Dev nD) ≠ c := by revert c; decide
theorem cond15 (c : Dev nD) : k0_cond15 c = 1#1 ↔ (6 : Dev nD) ≠ c := by revert c; decide
theorem cond16 (c : Dev nD) : k0_cond16 c = 1#1 ↔ (7 : Dev nD) ≠ c := by revert c; decide
theorem off1 (c : Dev nD) : k0_off1 c = ![c.val, 0] := by revert c; decide
theorem off2 (c : Dev nD) : k0_off2 c = ![c.val] := by revert c; decide
theorem off3 (c : Dev nD) : k0_off3 c = ![c.val, 0] := by revert c; decide
theorem off4 (c : Dev nD) : k0_off4 c = ![c.val] := by revert c; decide
theorem off5 (c : Dev nD) : k0_off5 c = ![c.val, 0] := by revert c; decide
theorem off6 (c : Dev nD) : k0_off6 c = ![c.val] := by revert c; decide
theorem off7 (c : Dev nD) : k0_off7 c = ![c.val, 0] := by revert c; decide
theorem off8 (c : Dev nD) : k0_off8 c = ![c.val] := by revert c; decide
theorem off9 (c : Dev nD) : k0_off9 c = ![c.val, 0] := by revert c; decide
theorem off10 (c : Dev nD) : k0_off10 c = ![c.val] := by revert c; decide
theorem off11 (c : Dev nD) : k0_off11 c = ![c.val, 0] := by revert c; decide
theorem off12 (c : Dev nD) : k0_off12 c = ![c.val] := by revert c; decide
theorem off13 (c : Dev nD) : k0_off13 c = ![c.val, 0] := by revert c; decide
theorem off14 (c : Dev nD) : k0_off14 c = ![c.val] := by revert c; decide
theorem off15 (c : Dev nD) : k0_off15 c = ![c.val, 0] := by revert c; decide
theorem off16 (c : Dev nD) : k0_off16 c = ![c.val] := by revert c; decide
theorem off17 (c : Dev nD) : k0_off17 c = ![c.val, 0] := by revert c; decide
theorem dev9 (c : Dev nD) : (⟨k0_dev9 c, k0_dev9_lt c⟩ : Dev nD) = nxt .r c := by revert c; decide
theorem dev10 (c : Dev nD) : (⟨k0_dev10 c, k0_dev10_lt c⟩ : Dev nD) = nxt .l c := by revert c; decide
theorem dev19 (c : Dev nD) : (⟨k0_dev19 c, k0_dev19_lt c⟩ : Dev nD) = nxt .r c := by revert c; decide
theorem dev20 (c : Dev nD) : (⟨k0_dev20 c, k0_dev20_lt c⟩ : Dev nD) = nxt .l c := by revert c; decide
theorem dev21 (c : Dev nD) : (⟨k0_dev21 c, k0_dev21_lt c⟩ : Dev nD) = prv .r c := by revert c; decide
theorem dev22 (c : Dev nD) : (⟨k0_dev22 c, k0_dev22_lt c⟩ : Dev nD) = prv .l c := by revert c; decide
theorem dev23 (c : Dev nD) : (⟨k0_dev23 c, k0_dev23_lt c⟩ : Dev nD) = nxt .r c := by revert c; decide
theorem dev24 (c : Dev nD) : (⟨k0_dev24 c, k0_dev24_lt c⟩ : Dev nD) = nxt .l c := by revert c; decide
theorem dev25 (c : Dev nD) : (⟨k0_dev25 c, k0_dev25_lt c⟩ : Dev nD) = prv .r c := by revert c; decide
theorem dev26 (c : Dev nD) : (⟨k0_dev26 c, k0_dev26_lt c⟩ : Dev nD) = prv .l c := by revert c; decide
theorem dev27 (c : Dev nD) : (⟨k0_dev27 c, k0_dev27_lt c⟩ : Dev nD) = nxt .r c := by revert c; decide
theorem dev28 (c : Dev nD) : (⟨k0_dev28 c, k0_dev28_lt c⟩ : Dev nD) = nxt .l c := by revert c; decide

/-- A device's own place as the word that the body computes. -/
noncomputable abbrev wd (c : Dev nD) : BitVec 32 := Scalar.remsi (Scalar.divsi (Dev.word c) 1#32) 8#32
/-- The printed condition of the waits for a peer's row. -/
theorem cond_in (c p : Dev nD) : Scalar.cmpi .ne (Scalar.extui (Scalar.cmpi .ne (wd c) (BitVec.ofNat 32 p.val))) 0#32 = 1#1 ↔ p ≠ c := by revert c p; decide

end Cert.KernelIdeal.Talk
-- ==== Proof.Hops.lean ====
/-
  The remaining steps of the body, each once for both streams: loads and stores, the hops, the waits, the words that a place is free.
-/
module

public import proofs.«01_k».proof.Proof.Guards

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

/-! ## Plain steps -/

/-- The device's own number is at hand. -/
theorem step_id (c : Dev nD) {k : Dev nD → Prog (TpuEff nD τ sig (Elt F) Λ₀ .tc) α} {Q : α → sProp 𝕄} :
    run c (k c) Q ⊢ run c (Prog.lift .deviceId >>= k) Q := by
  simp only [Prog.lift, Prog.bind_op, Prog.bind_ret, wp_deviceId]
  exact Entails.refl _

/-- A part ends with its value. -/
theorem step_ret (c : Dev nD) (x : α) {Q : α → sProp 𝕄} : Q x ⊢ run c (Pure.pure x : Prog (TpuEff nD τ sig (Elt F) Λ₀ .tc) α) Q := by
  rw [show run c (Pure.pure x : Prog (TpuEff nD τ sig (Elt F) Λ₀ .tc) α) Q = iprop(|={Set.univ}=> Q x) from rfl]
  iintro H
  imodintro
  iexact H

/-- A load, with the elements that it reads at hand. -/
theorem step_load (c : Dev nD) {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))} {q : PosShare TreeShare}
    {f : Buf (Elt F) (m.view.loc (c : Thread nD τ))} (hS : m.view.setOn r.set ⊆ S) {P : sProp 𝕄} (hP : (m.view.loc (c : Thread nD τ) ↦[S]{q} f) = P)
    {w : r.shape.Idx → Elt F e} (hw : m.view.readAt (Elt F) r f = w) {Q : α → sProp 𝕄} :
    P ⊢ iprop((P -∗ run c (k w) Q) -∗ run c (Prog.lift (.load m r hl) >>= k) Q) := by
  subst hP hw
  exact wp_load 𝒱₀ (c : Thread nD τ) none Set.univ hS

/-- A store, with the elements that it writes at hand. -/
theorem step_store (c : Dev nD) {cs : CoreSpace} {s : Shape} {e : EltTy} {m : Memref sig .tc cs s e} {r : Rect s} {w : r.shape.Idx → Elt F e} {Mk : Finset r.shape.Idx}
    {hx : (m.access r).Stores Mk} {hm : Mk = Finset.univ ∨ ∀ a, r.stride a = 1} {k : PUnit → Prog (TpuEff nD τ sig (Elt F) Λ₀ .tc) α}
    {S : Finset (Idx ((m.access r).loc (c : Thread nD τ)))} {f : Buf (Elt F) ((m.access r).loc (c : Thread nD τ))} (hS : (m.access r).setOn Mk ⊆ S)
    {P P' : sProp 𝕄} (hP : ((m.access r).loc (c : Thread nD τ) ↦[S]{fullShare} f) = P)
    (hP' : ((m.access r).loc (c : Thread nD τ) ↦[S]{fullShare} ((m.access r).write (Elt F) f w Mk)) = P') {Q : α → sProp 𝕄} :
    P ⊢ iprop((P' -∗ run c (k PUnit.unit) Q) -∗ run c (Prog.lift (.store m r w Mk hx hm) >>= k) Q) := by
  subst hP hP'
  exact wp_store 𝒱₀ (c : Thread nD τ) none Set.univ hS

/-- A load of a whole buffer. -/
theorem step_get (c : Dev nD) {cs : CoreSpace} {i : Fin (sig.nNear .tc cs)} {hκ : sig.names .tc cs i = true} {off : Fin (sig.tyNear .tc cs i).shape.rank → ℕ} (h : off = fun _ => 0)
    {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {k : ((sig.tyNear .tc cs i).Contents (Elt F)) → Prog (TpuEff nD τ sig (Elt F) Λ₀ .tc) α} {q : PosShare TreeShare} {f : (sig.tyNear .tc cs i).Contents (Elt F)} {Q : α → sProp 𝕄} :
    ((c : Thread nD τ).loc ⟨cs, i, hκ⟩ ↦{q} f : sProp 𝕄)
      ⊢ iprop((((c : Thread nD τ).loc ⟨cs, i, hκ⟩ ↦{q} f) -∗ run c (k f) Q)
          -∗ run c (Prog.lift (.load (Memref.whole ⟨cs, i, hκ⟩) (Rect.unit off (sig.tyNear .tc cs i).shape.size inb).toLoadRect hl) >>= k) Q) := by
  exact step_load c (Finset.subset_univ _) rfl (Memref.readAt_unit_zero (Elt F) ⟨cs, i, hκ⟩ h inb f)

/-- A store into a whole buffer. -/
theorem step_put (c : Dev nD) {cs : CoreSpace} {i : Fin (sig.nNear .tc cs)} {hκ : sig.names .tc cs i = true} {off : Fin (sig.tyNear .tc cs i).shape.rank → ℕ} (h : off = fun _ => 0)
    {inb : ∀ a, off a + (sig.tyNear .tc cs i).shape.size a ≤ (sig.tyNear .tc cs i).shape.size a} {w : (sig.tyNear .tc cs i).Contents (Elt F)}
    {hx : ((Memref.whole ⟨cs, i, hκ⟩).access (Rect.unit off (sig.tyNear .tc cs i).shape.size inb) : View sig .tc _ _ _).Stores Finset.univ}
    {hm : (Finset.univ : Finset (Rect.unit off (sig.tyNear .tc cs i).shape.size inb).shape.Idx) = Finset.univ ∨ ∀ a, (Rect.unit off (sig.tyNear .tc cs i).shape.size inb).stride a = 1}
    {k : PUnit → Prog (TpuEff nD τ sig (Elt F) Λ₀ .tc) α} {f : (sig.tyNear .tc cs i).Contents (Elt F)} {Q : α → sProp 𝕄} :
    ((c : Thread nD τ).loc ⟨cs, i, hκ⟩ ↦{fullShare} f : sProp 𝕄)
      ⊢ iprop((((c : Thread nD τ).loc ⟨cs, i, hκ⟩ ↦{fullShare} w) -∗ run c (k PUnit.unit) Q)
          -∗ run c (Prog.lift (.store (Memref.whole ⟨cs, i, hκ⟩) (Rect.unit off (sig.tyNear .tc cs i).shape.size inb) w Finset.univ hx hm) >>= k) Q) := by
  exact step_store c (Finset.subset_univ _) rfl (congrArg _ (Memref.write_access_unit_zero_univ (Elt F) ⟨cs, i, hκ⟩ h inb f w))

theorem zero2 : (![0, 0] : Fin 2 → ℕ) = fun _ => 0 := by funext a; revert a; decide
theorem zero3 : (![0, 0, 0] : Fin 3 → ℕ) = fun _ => 0 := by funext a; revert a; decide

/-! ## The streams' resources -/

abbrev at' (c : Dev nD) (k : Kd) (r : ℕ) : sProp 𝕄 := atPos ER (kcell (c, k)) r ∅ 0
abbrev tS (c : Dev nD) (s : Side) (h : Fin 4) : sProp 𝕄 := dutyTok ER (kcell (c, .sn s h)) 0 0
abbrev tV (c : Dev nD) (s : Side) (h : Fin 4) : sProp 𝕄 := dutyTok ER (kcell (nxt s c, .rv s h)) 0 0
abbrev tC (c : Dev nD) (s : Side) (r : ℕ) : sProp 𝕄 := dutyTok ER (kcell (prv s c, .cr s)) r 0
abbrev cS (c : Dev nD) (s : Side) (h : Fin 4) : sProp 𝕄 := cred (tallyAt (kcell (c, .sn s h)) 0 (amountK (.sn s h)))
abbrev cV (c : Dev nD) (s : Side) (h : Fin 4) : sProp 𝕄 := cred (tallyAt (kcell (c, .rv s h)) 0 (amountK (.rv s h)))
abbrev cC (c : Dev nD) (s : Side) (r : ℕ) : sProp 𝕄 := cred (tallyAt (kcell (c, .cr s)) r 1)
/-- A part of a landing buffer, whatever it holds. -/
noncomputable def anyBuf (c : Dev nD) (s : Side) (I : Finset S2x4x512x1024.Idx) : sProp 𝕄 := iprop(∃ f, bufPts (F := F) c s I fullShare f)

/-! ## The hops -/

/-- Where the half begins that a stream's last hop carries. -/
abbrev halfAt : Side → ℕ
  | .r => 0
  | .l => 2

/-- A hop of a stream, its source and its destination seen through the copy's views. -/
theorem hop (K : Dev nD × Kd → ℕ) (c : Dev nD) (s : Side) (h : Fin 4) {n : Dev nD} (hn : n = nxt s c) {sS sV : DmaSem sig}
    (hS : SemLoc.dma sS = csem (.sn s h)) (hV : SemLoc.dma sV = csem (.rv s h)) {sp sp' : Space} {sh : Shape} {e : EltTy} {src : Memref sig .tc sp sh e} {dst : Memref sig .tc sp' sh e}
    {hsc : dst.view.ref.isScScratch = false} {hsrc : src.view.WordExact} {hdst : dst.view.WordExact} {hsem : DmaTarget.Typed sp (.dma sV) (.remote (n : Thread nD τ) dst (.dma sS) hsc)}
    (hN : dst.view.amount (.dma sV) = amountK (.rv s h)) {B : sProp 𝕄} (X : sProp 𝕄) {q : PosShare TreeShare}
    {fs : Buf (Elt F) (src.view.loc (c : Thread nD τ))} {A : sProp 𝕄} (hA : (src.view.loc (c : Thread nD τ) ↦[src.view.set]{q} fs) = A) (hA' : A = snPay wb c s h)
    (hB : B ⊢ iprop(∃ fd, (dst.view.loc (nxt s c : Thread nD τ) ↦[dst.view.set]{fullShare} fd)))
    (hp : ∀ fd, iprop((dst.view.loc (nxt s c : Thread nD τ) ↦[dst.view.set]{fullShare} (dst.view.write (Elt F) fd (src.view.read (Elt F) fs) Finset.univ)) ∗ X)
      ⊢ rvPay wb (nxt s c) s h) (l : List Due) {k : Prog (TpuEff nD τ sig (Elt F) Λ₀ .tc) α} {Q : α → sProp 𝕄} :
    iprop(Rec wb hb K ∗ A ∗ B ∗ X ∗ Owes c (dHop c s h :: l) ∗ tS c s h ∗ tV c s h)
      ⊢ iprop(((cS c s h ∗ Owes c l) -∗ run c k Q)
          -∗ run c (Prog.lift (.enqueueDma src (.remote (Dev.tc n) dst (.dma sS) hsc) (.dma sV) hsrc hdst hsem) >>= fun _ => k) Q) := by
  iintro ⟨#HR, HA, HB, HX, HO, HtS, HtV⟩ Hk
  ihave HB' := hB $$ HB
  icases HB' with ⟨%fd, Hd⟩
  irwh [← hA] at HA
  iapply (step_send wb hb K c (nxt s c) hn (.sn s h) (.rv s h) hS hV (hsc := hsc) (hsrc := hsrc) (hdst := hdst) (hsem := hsem) 0 0
    (Finset.mem_singleton_self _) (Finset.mem_singleton_self _) (amountK (.rv s h)) hN rfl rfl
    (q := q) (fs := fs) (fd := fd) X (Entails.of_eq (hA.trans hA')) (hp fd) 0 l (kont := fun _ => k)) $$ [HA Hd HX HO HtS HtV]
  · iclose
  iexact Hk

/-- The first hop: the device's own experts to the successor's second slot. -/
theorem hop0 (K : Dev nD × Kd → ℕ) (c : Dev nD) (s : Side) {n : Dev nD} (hn : n = nxt s c) {sS sV : DmaSem sig}
    (hS : SemLoc.dma sS = csem (.sn s 0)) (hV : SemLoc.dma sV = csem (.rv s 0)) {inb}
    {hsc : (slotM (bufM s) 1 inb).view.ref.isScScratch = false} {hsrc : (Memref.whole cc0_scratch1 : Memref sig .tc .vmem S4x512x1024 .bf16).view.WordExact}
    {hdst : (slotM (bufM s) 1 inb).view.WordExact} {hsem : DmaTarget.Typed .vmem (.dma sV) (.remote (n : Thread nD τ) (slotM (bufM s) 1 inb) (.dma sS) hsc)}
    (l : List Due) {k : Prog (TpuEff nD τ sig (Elt F) Λ₀ .tc) α} {Q : α → sProp 𝕄} :
    iprop(Rec wb hb K ∗ ewPts c (ewShare s) (wb c) ∗ anyBuf (nxt s c) s (slotS 1) ∗ Owes c (dHop c s 0 :: l) ∗ tS c s 0 ∗ tV c s 0)
      ⊢ iprop(((cS c s 0 ∗ Owes c l) -∗ run c k Q)
          -∗ run c (Prog.lift (.enqueueDma (Memref.whole cc0_scratch1 : Memref sig .tc .vmem S4x512x1024 .bf16) (.remote (Dev.tc n) (slotM (bufM s) 1 inb) (.dma sS) hsc) (.dma sV) hsrc hdst hsem) >>= fun _ => k) Q) := by
  have e : wb (org s 1 (nxt s c)) = wb c := congrArg wb ((org_nxt s 0 c).trans (org_zero s c))
  iintro ⟨#HR, HA, HB, HO, HtS, HtV⟩
  cases s
  · iapply (hop wb hb K c .r 0 hn hS hV (hsc := hsc) (hsrc := hsrc) (hdst := hdst) (hsem := hsem) rfl (A := ewPts c (ewShare .r) (wb c)) (B := anyBuf (nxt .r c) .r (slotS 1)) iprop(emp) (q := ewShare .r) (fs := wb c)
      (by simp only [View.set_whole]; rfl) rfl (exists_mono fun fd => Entails.of_eq (slot_pts_r 1 inb (nxt .r c) fullShare fd).symm)
      (fun fd => BI.sep_emp.1.trans (Entails.of_eq ((land_slot_r 1 inb (nxt .r c) fd (wb c)).trans (by rw [← e]; rfl)))) l)
    iclose
  · iapply (hop wb hb K c .l 0 hn hS hV (hsc := hsc) (hsrc := hsrc) (hdst := hdst) (hsem := hsem) rfl (A := ewPts c (ewShare .l) (wb c)) (B := anyBuf (nxt .l c) .l (slotS 1)) iprop(emp) (q := ewShare .l) (fs := wb c)
      (by simp only [View.set_whole]; rfl) rfl (exists_mono fun fd => Entails.of_eq (slot_pts_l 1 inb (nxt .l c) fullShare fd).symm)
      (fun fd => BI.sep_emp.1.trans (Entails.of_eq ((land_slot_l 1 inb (nxt .l c) fd (wb c)).trans (by rw [← e]; rfl)))) l)
    iclose

/-- What stands in one slot, landed in another. -/
theorem pass_slot_r (k k' : ℕ) (inb inb') (c : Dev nD) (fd : Vec F S2x4x512x1024 .bf16) (w : Vec F S4x512x1024 .bf16) :
    ((slotM (bufM .r) k inb).view.loc (c : Thread nD τ) ↦[(slotM (bufM .r) k inb).view.set]{fullShare}
        ((slotM (bufM .r) k inb).view.write (Elt F) fd ((slotM (bufM .r) k' inb').view.read (Elt F) (spread w)) Finset.univ) : sProp 𝕄)
      = bufPts c .r (slotS k) fullShare (spread w) :=
  (write_pts (slotM (bufM .r) k inb).view c fd _ (spread w) fun x => (spread_slot w k' inb' _ x).trans (spread_slot w k inb _ x).symm).trans (slot_pts_r k inb c fullShare (spread w))

/-- What stands in one slot, landed in another. -/
theorem pass_slot_l (k k' : ℕ) (inb inb') (c : Dev nD) (fd : Vec F S2x4x512x1024 .bf16) (w : Vec F S4x512x1024 .bf16) :
    ((slotM (bufM .l) k inb).view.loc (c : Thread nD τ) ↦[(slotM (bufM .l) k inb).view.set]{fullShare}
        ((slotM (bufM .l) k inb).view.write (Elt F) fd ((slotM (bufM .l) k' inb').view.read (Elt F) (spread w)) Finset.univ) : sProp 𝕄)
      = bufPts c .l (slotS k) fullShare (spread w) :=
  (write_pts (slotM (bufM .l) k inb).view c fd _ (spread w) fun x => (spread_slot w k' inb' _ x).trans (spread_slot w k inb _ x).symm).trans (slot_pts_l k inb c fullShare (spread w))

/-- Hop 2: what landed in slot 1 goes on to the successor's slot 0. -/
theorem hop1 (K : Dev nD × Kd → ℕ) (c : Dev nD) (s : Side) {n : Dev nD} (hn : n = nxt s c) {sS sV : DmaSem sig}
    (hS : SemLoc.dma sS = csem (.sn s 1)) (hV : SemLoc.dma sV = csem (.rv s 1)) {inb inb'}
    {hsc : (slotM (bufM s) 0 inb).view.ref.isScScratch = false} {hsrc : (slotM (bufM s) 1 inb').view.WordExact}
    {hdst : (slotM (bufM s) 0 inb).view.WordExact} {hsem : DmaTarget.Typed .vmem (.dma sV) (.remote (n : Thread nD τ) (slotM (bufM s) 0 inb) (.dma sS) hsc)}
    (l : List Due) {k : Prog (TpuEff nD τ sig (Elt F) Λ₀ .tc) α} {Q : α → sProp 𝕄} :
    iprop(Rec wb hb K ∗ bufPts c s (slotS 1) fullShare.left (spread (wb (org s 1 c))) ∗ anyBuf (nxt s c) s (slotS 0) ∗ Owes c (dHop c s 1 :: l) ∗ tS c s 1 ∗ tV c s 1)
      ⊢ iprop(((cS c s 1 ∗ Owes c l) -∗ run c k Q)
          -∗ run c (Prog.lift (.enqueueDma (slotM (bufM s) 1 inb') (.remote (Dev.tc n) (slotM (bufM s) 0 inb) (.dma sS) hsc) (.dma sV) hsrc hdst hsem) >>= fun _ => k) Q) := by
  have e : wb (org s 2 (nxt s c)) = wb (org s 1 c) := congrArg wb (org_nxt s 1 c)
  iintro ⟨#HR, HA, HB, HO, HtS, HtV⟩
  cases s
  · iapply (hop wb hb K c .r 1 hn hS hV (hsc := hsc) (hsrc := hsrc) (hdst := hdst) (hsem := hsem) rfl (A := bufPts c .r (slotS 1) fullShare.left (spread (wb (org .r 1 c)))) (B := anyBuf (nxt .r c) .r (slotS 0)) iprop(emp) (q := fullShare.left) (fs := spread (wb (org .r 1 c)))
      (slot_pts_r 1 inb' c fullShare.left (spread (wb (org .r 1 c)))) rfl (exists_mono fun fd => Entails.of_eq (slot_pts_r 0 inb (nxt .r c) fullShare fd).symm)
      (fun fd => BI.sep_emp.1.trans (Entails.of_eq (((pass_slot_r 0 1 inb inb' (nxt .r c) fd (wb (org .r 1 c)))).trans ((congrArg (fun w => bufPts (nxt .r c) .r (slotS 0) fullShare (spread w)) e.symm))))) l)
    iclose
  · iapply (hop wb hb K c .l 1 hn hS hV (hsc := hsc) (hsrc := hsrc) (hdst := hdst) (hsem := hsem) rfl (A := bufPts c .l (slotS 1) fullShare.left (spread (wb (org .l 1 c)))) (B := anyBuf (nxt .l c) .l (slotS 0)) iprop(emp) (q := fullShare.left) (fs := spread (wb (org .l 1 c)))
      (slot_pts_l 1 inb' c fullShare.left (spread (wb (org .l 1 c)))) rfl (exists_mono fun fd => Entails.of_eq (slot_pts_l 0 inb (nxt .l c) fullShare fd).symm)
      (fun fd => BI.sep_emp.1.trans (Entails.of_eq (((pass_slot_l 0 1 inb inb' (nxt .l c) fd (wb (org .l 1 c)))).trans ((congrArg (fun w => bufPts (nxt .l c) .l (slotS 0) fullShare (spread w)) e.symm))))) l)
    iclose

/-- Hop 3: what landed in slot 0 goes on to the successor's slot 1. -/
theorem hop2 (K : Dev nD × Kd → ℕ) (c : Dev nD) (s : Side) {n : Dev nD} (hn : n = nxt s c) {sS sV : DmaSem sig}
    (hS : SemLoc.dma sS = csem (.sn s 2)) (hV : SemLoc.dma sV = csem (.rv s 2)) {inb inb'}
    {hsc : (slotM (bufM s) 1 inb).view.ref.isScScratch = false} {hsrc : (slotM (bufM s) 0 inb').view.WordExact}
    {hdst : (slotM (bufM s) 1 inb).view.WordExact} {hsem : DmaTarget.Typed .vmem (.dma sV) (.remote (n : Thread nD τ) (slotM (bufM s) 1 inb) (.dma sS) hsc)}
    (l : List Due) {k : Prog (TpuEff nD τ sig (Elt F) Λ₀ .tc) α} {Q : α → sProp 𝕄} :
    iprop(Rec wb hb K ∗ bufPts c s (slotS 0) fullShare.left (spread (wb (org s 2 c))) ∗ anyBuf (nxt s c) s (slotS 1) ∗ reached ER (kcell (c, .cr s)) 1 ∗ Owes c (dHop c s 2 :: l) ∗ tS c s 2 ∗ tV c s 2)
      ⊢ iprop(((cS c s 2 ∗ Owes c l) -∗ run c k Q)
          -∗ run c (Prog.lift (.enqueueDma (slotM (bufM s) 0 inb') (.remote (Dev.tc n) (slotM (bufM s) 1 inb) (.dma sS) hsc) (.dma sV) hsrc hdst hsem) >>= fun _ => k) Q) := by
  have e : wb (org s 3 (nxt s c)) = wb (org s 2 c) := congrArg wb (org_nxt s 2 c)
  have e' : (reached ER (kcell (prv s (nxt s c), .cr s)) 1 : sProp 𝕄) = reached ER (kcell (c, .cr s)) 1 := by rw [prv_nxt]
  iintro ⟨#HR, HA, HB, HX, HO, HtS, HtV⟩
  cases s
  · iapply (hop wb hb K c .r 2 hn hS hV (hsc := hsc) (hsrc := hsrc) (hdst := hdst) (hsem := hsem) rfl (A := bufPts c .r (slotS 0) fullShare.left (spread (wb (org .r 2 c)))) (B := anyBuf (nxt .r c) .r (slotS 1)) (reached ER (kcell (c, .cr .r)) 1) (q := fullShare.left) (fs := spread (wb (org .r 2 c)))
      (slot_pts_r 0 inb' c fullShare.left (spread (wb (org .r 2 c)))) rfl (exists_mono fun fd => Entails.of_eq (slot_pts_r 1 inb (nxt .r c) fullShare fd).symm)
      (fun fd => BI.sep_mono (Entails.of_eq (((pass_slot_r 1 0 inb inb' (nxt .r c) fd (wb (org .r 2 c)))).trans ((congrArg (fun w => bufPts (nxt .r c) .r (slotS 1) fullShare (spread w)) e.symm)))) (Entails.of_eq e'.symm)) l)
    iclose
  · iapply (hop wb hb K c .l 2 hn hS hV (hsc := hsc) (hsrc := hsrc) (hdst := hdst) (hsem := hsem) rfl (A := bufPts c .l (slotS 0) fullShare.left (spread (wb (org .l 2 c)))) (B := anyBuf (nxt .l c) .l (slotS 1)) (reached ER (kcell (c, .cr .l)) 1) (q := fullShare.left) (fs := spread (wb (org .l 2 c)))
      (slot_pts_l 0 inb' c fullShare.left (spread (wb (org .l 2 c)))) rfl (exists_mono fun fd => Entails.of_eq (slot_pts_l 1 inb (nxt .l c) fullShare fd).symm)
      (fun fd => BI.sep_mono (Entails.of_eq (((pass_slot_l 1 0 inb inb' (nxt .l c) fd (wb (org .l 2 c)))).trans ((congrArg (fun w => bufPts (nxt .l c) .l (slotS 1) fullShare (spread w)) e.symm)))) (Entails.of_eq e'.symm)) l)
    iclose

/-- The last hop: half of what landed in slot 1 goes on to the same half of the successor's slot 0. -/
theorem hop3 (K : Dev nD × Kd → ℕ) (c : Dev nD) (s : Side) {n : Dev nD} (hn : n = nxt s c) {sS sV : DmaSem sig}
    (hS : SemLoc.dma sS = csem (.sn s 3)) (hV : SemLoc.dma sV = csem (.rv s 3)) {inb inb'}
    {hsc : (halfM (bufM s) 0 (halfAt s) inb).view.ref.isScScratch = false} {hsrc : (halfM (bufM s) 1 (halfAt s) inb').view.WordExact}
    {hdst : (halfM (bufM s) 0 (halfAt s) inb).view.WordExact} {hsem : DmaTarget.Typed .vmem (.dma sV) (.remote (n : Thread nD τ) (halfM (bufM s) 0 (halfAt s) inb) (.dma sS) hsc)}
    (l : List Due) {k : Prog (TpuEff nD τ sig (Elt F) Λ₀ .tc) α} {Q : α → sProp 𝕄} :
    iprop(Rec wb hb K ∗ bufPts c s (halfS s 1) fullShare.left (spread (wb (org s 3 c))) ∗ anyBuf (nxt s c) s (halfS s 0) ∗ Owes c (dHop c s 3 :: l) ∗ tS c s 3 ∗ tV c s 3)
      ⊢ iprop(((cS c s 3 ∗ Owes c l) -∗ run c k Q)
          -∗ run c (Prog.lift (.enqueueDma (halfM (bufM s) 1 (halfAt s) inb') (.remote (Dev.tc n) (halfM (bufM s) 0 (halfAt s) inb) (.dma sS) hsc) (.dma sV) hsrc hdst hsem) >>= fun _ => k) Q) := by
  have e : wb (org s 4 (nxt s c)) = wb (org s 3 c) := congrArg wb (org_nxt s 3 c)
  iintro ⟨#HR, HA, HB, HO, HtS, HtV⟩
  cases s
  · iapply (hop wb hb K c .r 3 hn hS hV (hsc := hsc) (hsrc := hsrc) (hdst := hdst) (hsem := hsem) rfl (A := bufPts c .r (halfS .r 1) fullShare.left (spread (wb (org .r 3 c)))) (B := anyBuf (nxt .r c) .r (halfS .r 0)) iprop(emp) (q := fullShare.left) (fs := spread (wb (org .r 3 c)))
      (half_pts_r 1 inb' c fullShare.left (spread (wb (org .r 3 c)))) rfl (exists_mono fun fd => Entails.of_eq (half_pts_r 0 inb (nxt .r c) fullShare fd).symm)
      (fun fd => BI.sep_emp.1.trans (Entails.of_eq ((land_half_r inb inb' (nxt .r c) fd (wb (org .r 3 c))).trans (congrArg (fun w => bufPts (nxt .r c) .r (halfS .r 0) fullShare (spread w)) e.symm)))) l)
    iclose
  · iapply (hop wb hb K c .l 3 hn hS hV (hsc := hsc) (hsrc := hsrc) (hdst := hdst) (hsem := hsem) rfl (A := bufPts c .l (halfS .l 1) fullShare.left (spread (wb (org .l 3 c)))) (B := anyBuf (nxt .l c) .l (halfS .l 0)) iprop(emp) (q := fullShare.left) (fs := spread (wb (org .l 3 c)))
      (half_pts_l 1 inb' c fullShare.left (spread (wb (org .l 3 c)))) rfl (exists_mono fun fd => Entails.of_eq (half_pts_l 0 inb (nxt .l c) fullShare fd).symm)
      (fun fd => BI.sep_emp.1.trans (Entails.of_eq ((land_half_l inb inb' (nxt .l c) fd (wb (org .l 3 c))).trans (congrArg (fun w => bufPts (nxt .l c) .l (halfS .l 0) fullShare (spread w)) e.symm)))) l)
    iclose

/-! ## The waits and the words -/

/-- A wait for a copy, of either end. -/
theorem wait_dma (K : Dev nD × Kd → ℕ) (c : Dev nD) (k : Kd) {sem : DmaSem sig} (hs : SemLoc.dma sem = csem k) (hd : dutiesK c k 0 = {0})
    {sp sp' : Space} {s s' : Shape} {e e' : EltTy} {src : Memref sig .tc sp' s' e'} {dst : Memref sig .tc sp s e} {h₁ : src.view.WordExact} {h₂ : dst.view.WordExact}
    (hv : dst.view.dmaCredit = amountK k) {P : sProp 𝕄} (hP : payloadK wb hb c k 0 0 = P) (l : List Due) (hl : below (lvK k 0) l = true)
    {kont : Prog (TpuEff nD τ sig (Elt F) Λ₀ .tc) α} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src dst h₁ h₂) >>= fun _ => kont) Q) := by
  iintro ⟨#HR, Hc, HO, Ha⟩ Hk
  iapply (step_wait wb hb K c k (v := amountK k) (w := .waitDma2 sem src dst h₁ h₂) (fun P => by rw [← hv]; rfl) hs 0 0
    (by rw [hd, Finset.card_singleton, Nat.one_mul]) (by decide) l hl (kont := fun _ => kont)) $$ [HO Ha Hc]
  · iclose
  iintro ⟨HO, Ha, -, Hp⟩
  ihave Hp := (Entails.of_eq (duty_one wb hb c k 0 hd hP)) $$ Hp
  iapply Hk
  iclose

/-- A wait for one word of the successor. -/
theorem wait_cr (K : Dev nD × Kd → ℕ) (c : Dev nD) (s : Side) (r : ℕ) (hr : r ≤ 1) {sem : Sem sig} (hs : SemLoc.reg sem = csem (.cr s)) (hd : dutiesK c (.cr s) r = {0})
    (l : List Due) (hl : below (lvK (.cr s) r) l = true) {kont : Prog (TpuEff nD τ sig (Elt F) Λ₀ .tc) α} {Q : α → sProp 𝕄} :
    iprop(Rec wb hb K ∗ cC c s r ∗ Owes c l ∗ at' c (.cr s) r)
      ⊢ iprop(((Owes c l ∗ at' c (.cr s) (r + 1) ∗ reached ER (kcell (c, .cr s)) (r + 1) ∗ crPay c s r) -∗ run c kont Q) -∗ run c (semWaitWord sem 1#32 >>= fun _ => kont) Q) := by
  iintro ⟨#HR, Hc, HO, Ha⟩ Hk
  iapply (step_wait wb hb K c (.cr s) (v := 1) (w := .semWait sem 1) (fun P => rfl) hs r r (by rw [hd]; rfl) hr l hl (kont := fun _ => kont)) $$ [HO Ha Hc]
  · iclose
  iintro ⟨HO, Ha, Hr, Hp⟩
  ihave Hp := (Entails.of_eq (duty_one wb hb c (.cr s) r hd (show payloadK wb hb c (.cr s) r 0 = crPay c s r from rfl))) $$ Hp
  iapply Hk
  iclose

/-- The wait at the barrier. -/
theorem wait_bar (K : Dev nD × Kd → ℕ) (c : Dev nD) {sem : Sem sig} (hs : SemLoc.reg sem = csem .bar)
    (l : List Due) (hl : below 1 l = true) {kont : Prog (TpuEff nD τ sig (Elt F) Λ₀ .tc) α} {Q : α → sProp 𝕄} :
    iprop(Rec wb hb K ∗ cred (tallyAt (kcell (c, .bar)) 0 7) ∗ Owes c l ∗ at' c .bar 0)
      ⊢ iprop(((Owes c l ∗ at' c .bar 1 ∗ bigSep (Finset.univ.erase c) (fun p => barPay (F := F) c p)) -∗ run c kont Q) -∗ run c (semWaitWord sem 7#32 >>= fun _ => kont) Q) := by
  iintro ⟨#HR, Hc, HO, Ha⟩ Hk
  iapply (step_wait wb hb K c .bar (v := 7) (w := .semWait sem 7) (fun P => rfl) hs 0 0
    (by rw [show dutiesK c .bar 0 = Finset.univ.erase c from rfl, Finset.card_erase_of_mem (Finset.mem_univ c)]; rfl) (by decide) l hl (kont := fun _ => kont)) $$ [HO Ha Hc]
  · iclose
  iintro ⟨HO, Ha, -, Hp⟩
  iapply Hk
  isplitl [HO]; · iexact HO
  isplitl [Ha]; · iexact Ha
  iapply (Entails.of_eq (show bigSep (dutiesK c .bar 0) (fun d => payloadK wb hb c .bar 0 d) = bigSep (Finset.univ.erase c) (fun p => barPay (F := F) c p) from rfl)) $$ Hp

/-- The word to the predecessor that a place of the landing buffer is free, which it hands over. -/
theorem sig_cr (K : Dev nD × Kd → ℕ) (c : Dev nD) (s : Side) (r : ℕ) (I : Finset S2x4x512x1024.Idx) (hI : ∀ c, crPay (F := F) c s r = anyBuf (nxt s c) s I) {n : Dev nD} (hn : n = prv s c)
    {sem : Sem sig} (hs : SemLoc.reg sem = csem (.cr s)) (hd : dutiesK (prv s c) (.cr s) r = {0}) (l : List Due)
    {kont : Prog (TpuEff nD τ sig (Elt F) Λ₀ .tc) α} {Q : α → sProp 𝕄} :
    iprop(Rec wb hb K ∗ Owes c (dCr c s r :: l) ∗ tC c s r ∗ anyBuf c s I ∗ reached ER (kcell (prv s c, .cr s)) r)
      ⊢ iprop((Owes c l -∗ run c kont Q) -∗ run c (semSignalWord (n : Dev nD) sem 1#32 >>= fun _ => kont) Q) := by
  iintro ⟨#HR, HO, Ht, Hp, #Hr⟩ Hk
  iapply (step_signal wb hb K c (prv s c) hn (.cr s) hs r r 0 (by rw [hd]; exact Finset.mem_singleton_self _) (v := 1) rfl l (kont := fun _ => kont)) $$ [HO Ht Hp]
  · isplitr; · iexact HR
    isplitl [HO]; · iexact HO
    isplitl [Ht]; · iexact Ht
    isplitl [Hp]; · iapply (Entails.of_eq (show anyBuf c s I = payloadK wb hb (prv s c) (.cr s) r 0 from ((hI (prv s c)).trans (by rw [nxt_prv])).symm)) $$ Hp
    iexact Hr
  iexact Hk

end Cert.KernelIdeal.Talk
-- ==== Proof.Table.lean ====
/-
  What the barrier hands over and the table of counts, cut into rows and put together again.
-/
module

public import proofs.«01_k».proof.Proof.Hops

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

theorem sep_emp_eq (P : sProp 𝕄) : iprop(P ∗ emp) = P := Entails.antisymm BI.sep_emp.1 BI.sep_emp.2
theorem emp_sep_eq (P : sProp 𝕄) : iprop(emp ∗ P) = P := Entails.antisymm BI.emp_sep.1 BI.emp_sep.2

/-- All but one, as all with nothing at that one. -/
theorem bigSep_but (c : Dev nD) (Φ : Dev nD → sProp 𝕄) : bigSep (Finset.univ.erase c) Φ = bigSep Finset.univ (fun p => if p = c then iprop(emp) else Φ p) := by
  rw [bigSep_univ_at _ c, if_pos rfl, emp_sep_eq]
  exact BI.bigSep_congr fun p hp => (if_neg (Finset.ne_of_mem_erase hp)).symm
/-- Nothing but at one. -/
theorem bigSep_one (c : Dev nD) (P : sProp 𝕄) : bigSep Finset.univ (fun p : Dev nD => if p = c then P else iprop(emp)) = P := by
  rw [bigSep_univ_at _ c, if_pos rfl, BI.bigSep_congr (Ψ := fun _ => iprop(emp)) fun p hp => if_neg (Finset.ne_of_mem_erase hp)]
  exact (congrArg (fun X => iprop(P ∗ X)) (BI.bigSep_emp_const _)).trans (sep_emp_eq P)
theorem bigSep_all {Φ Ψ : Dev nD → sProp 𝕄} (h : ∀ p, Φ p ⊢ Ψ p) : bigSep Finset.univ Φ ⊢ bigSep Finset.univ Ψ := BI.bigSep_mono fun p _ => h p
theorem sep_left (P R : sProp 𝕄) : iprop(P ∗ R) ⊢ P := by
  iintro ⟨H, -⟩
  iexact H
/-- Eight devices' worth, one by one. -/
theorem bigSep_eight (Φ : Dev nD → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} from by decide, bigSep_insert (by decide), bigSep_insert (by decide), bigSep_insert (by decide),
    bigSep_insert (by decide), bigSep_insert (by decide), bigSep_insert (by decide), bigSep_insert (by decide), bigSep_singleton]
  rfl

/-! ## The table's rows -/

theorem his_rows (c : Dev nD) (q : PosShare TreeShare) (f : Vec F S8x32 .f32) : hisPts c Finset.univ q f = bigSep Finset.univ fun p : Dev nD => hisPts c (rowS p.val) q f := by
  have h : (Finset.univ : Finset S8x32.Idx) = Finset.univ.biUnion fun p : Dev nD => rowS p.val := by
    ext i
    simp only [Finset.mem_univ, Finset.mem_biUnion, mem_rowS, true_and, true_iff]
    exact ⟨⟨(i 0).val, (i 0).isLt⟩, rfl⟩
  unfold hisPts
  rw [h]
  exact pointsTo_biUnion _ _ fun p _ p' _ hne => Finset.disjoint_left.mpr fun i hi hi' =>
    hne (Fin.ext ((mem_rowS.mp hi).symm.trans (mem_rowS.mp hi')))
theorem his_shares (c : Dev nD) (I : Finset S8x32.Idx) (f : Vec F S8x32 .f32) : hisPts c I fullShare f = bigSep Finset.univ fun p : Dev nD => hisPts c I (rowShare p) f := by
  unfold hisPts rowShare
  exact ShareLeaves.pointsTo_leaves (ℓ := (c : Thread nD τ).loc cc0_scratch0) I f 3 fullShare

/-- A peer's row for a device's counts, whatever it holds; none at the device itself. -/
noncomputable def RowDst (c p : Dev nD) : sProp 𝕄 := if p = c then iprop(emp) else iprop(∃ f, hisPts (F := F) p (rowS c.val) fullShare f)
/-- The tokens of the copy of a device's row to a peer. -/
noncomputable def RowTok (c p : Dev nD) : sProp 𝕄 :=
  if p = c then iprop(emp) else iprop(dutyTok ER (kcell (c, .hs p)) 0 0 ∗ dutyTok ER (kcell (p, .hr c)) 0 0)
/-- The token of the barrier signal to a peer. -/
noncomputable def BarTok (c p : Dev nD) : sProp 𝕄 := if p = c then iprop(emp) else dutyTok ER (kcell (p, .bar)) 0 c

/-- What the barrier brings. -/
theorem bar_split (c : Dev nD) : bigSep (Finset.univ.erase c) (fun p => barPay (F := F) c p)
    ⊢ iprop(bigSep Finset.univ (RowDst (F := F) c) ∗ anyBuf (F := F) (nxt .r c) .r Finset.univ ∗ anyBuf (F := F) (nxt .l c) .l Finset.univ) := by
  unfold barPay
  rw [bigSep_sep', bigSep_sep', bigSep_but c fun p => iprop(∃ f, hisPts (F := F) p (rowS c.val) fullShare f)]
  refine BI.sep_mono (Entails.refl _) (BI.sep_mono ?_ ?_)
  · rw [bigSep_erase (i := nxt .r c) (Finset.mem_erase.mpr ⟨by revert c; decide, Finset.mem_univ _⟩), if_pos rfl]
    exact sep_left _ _
  · rw [bigSep_erase (i := nxt .l c) (Finset.mem_erase.mpr ⟨by revert c; decide, Finset.mem_univ _⟩), if_pos rfl]
    exact sep_left _ _

theorem prv_iff_r : ∀ c p : Dev nD, p = prv .r c ↔ c = nxt .r p := by decide
theorem prv_iff_l : ∀ c p : Dev nD, p = prv .l c ↔ c = nxt .l p := by decide
/-- What the barrier signals hand over. -/
theorem bar_give (c : Dev nD) : iprop((∃ f, hisPts (F := F) c Finset.univ fullShare f) ∗ anyBuf (F := F) c .r Finset.univ ∗ anyBuf (F := F) c .l Finset.univ ∗ bigSep Finset.univ (BarTok (F := F) c))
    ⊢ iprop((∃ f, hisPts (F := F) c (rowS c.val) fullShare f) ∗ bigSep Finset.univ (BarOut (F := F) c)) := by
  have h1 : ∀ p : Dev nD, (p = prv .r c) = (c = nxt .r p) := fun p => propext (prv_iff_r c p)
  have h2 : ∀ p : Dev nD, (p = prv .l c) = (c = nxt .l p) := fun p => propext (prv_iff_l c p)
  have hp : ∀ p : Dev nD, iprop((∃ f, hisPts (F := F) c (rowS p.val) fullShare f) ∗ (if p = prv .r c then anyBuf (F := F) c .r Finset.univ else iprop(emp))
        ∗ (if p = prv .l c then anyBuf (F := F) c .l Finset.univ else iprop(emp)) ∗ BarTok (F := F) c p)
      ⊢ iprop((if p = c then iprop(∃ f, hisPts (F := F) c (rowS c.val) fullShare f) else iprop(emp)) ∗ BarOut (F := F) c p) := fun p => by
    unfold BarTok BarOut
    by_cases h : p = c
    · subst h
      simp only [↓reduceIte]
      iintro ⟨H, -⟩
      isplitl [H]; · iexact H
      iempintro
    · simp only [if_neg h, h1, h2]
      unfold barPay anyBuf
      iintro ⟨H, Hr, Hl, Ht⟩
      isplitr; · iempintro
      isplitl [Ht]; · iexact Ht
      isplitl [H]; · iexact H
      isplitl [Hr]; · iexact Hr
      iexact Hl
  iintro ⟨⟨%f, H⟩, Hr, Hl, Ht⟩
  irwh [his_rows c fullShare f] at H
  ihave H := (show bigSep Finset.univ (fun p : Dev nD => hisPts c (rowS p.val) fullShare f) ⊢ bigSep Finset.univ (fun p : Dev nD => iprop(∃ f, hisPts (F := F) c (rowS p.val) fullShare f)) from
    bigSep_all fun p => by iintro H; iexists f; iexact H) $$ H
  have hh := bigSep_all hp
  rw [bigSep_sep', bigSep_sep', bigSep_sep', bigSep_sep', bigSep_one, bigSep_one, bigSep_one] at hh
  iapply hh
  isplitl [H]; · iexact H
  isplitl [Hr]; · iexact Hr
  isplitl [Hl]; · iexact Hl
  iexact Ht

/-- The own row, shared out for the copies; one share stays. -/
theorem row_give (c : Dev nD) : iprop(hisPts c (rowS c.val) fullShare hb ∗ bigSep Finset.univ (RowDst (F := F) c) ∗ bigSep Finset.univ (RowTok (F := F) c))
    ⊢ iprop(hisPts c (rowS c.val) (rowShare c) hb ∗ bigSep Finset.univ (RowOut hb c)) := by
  have hp : ∀ p : Dev nD, iprop(hisPts c (rowS c.val) (rowShare p) hb ∗ RowDst (F := F) c p ∗ RowTok (F := F) c p)
      ⊢ iprop((if p = c then hisPts c (rowS c.val) (rowShare c) hb else iprop(emp)) ∗ RowOut hb c p) := fun p => by
    unfold RowDst RowTok RowOut
    by_cases h : p = c
    · subst h
      simp only [↓reduceIte]
      iintro ⟨H, -⟩
      isplitl [H]; · iexact H
      iempintro
    · simp only [if_neg h]
      iintro ⟨H, Hd, Ht⟩
      icases Ht with ⟨Ht1, Ht2⟩
      isplitr; · iempintro
      isplitl [Ht1]; · iexact Ht1
      isplitl [Ht2]; · iexact Ht2
      isplitl [H]; · iexact H
      iexact Hd
  have hh := bigSep_all hp
  rw [bigSep_sep', bigSep_sep', bigSep_sep', bigSep_one] at hh
  rw [his_shares c (rowS c.val) hb]
  exact hh

/-- The whole table, once every row has landed and every share is back. -/
theorem row_join (c : Dev nD) : iprop(hisPts c (rowS c.val) (rowShare c) hb ∗ bigSep Finset.univ (RowIn hb c)) ⊢ hisPts c Finset.univ fullShare hb := by
  have hp : ∀ p : Dev nD, iprop((if p = c then hisPts c (rowS c.val) (rowShare c) hb else iprop(emp)) ∗ RowIn hb c p)
      ⊢ iprop(hisPts c (rowS c.val) (rowShare p) hb ∗ (if p = c then iprop(emp) else hisPts c (rowS p.val) fullShare hb)) := fun p => by
    unfold RowIn
    by_cases h : p = c
    · subst h
      simp only [↓reduceIte]
      iintro ⟨H, -⟩
      isplitl [H]; · iexact H
      iempintro
    · simp only [if_neg h]
      iintro ⟨-, H, H'⟩
      isplitl [H]; · iexact H
      iexact H'
  have hh := bigSep_all hp
  rw [bigSep_sep', bigSep_sep', bigSep_one, ← his_shares, ← bigSep_but c (fun p => hisPts c (rowS p.val) fullShare hb)] at hh
  rw [his_rows c fullShare hb, bigSep_univ_at (fun p : Dev nD => hisPts c (rowS p.val) fullShare hb) c]
  exact hh

end Cert.KernelIdeal.Talk
-- ==== Proof.Parts.lean ====
/-
  The body's parts, one after the other, on any device.
-/
module

public import proofs.«01_k».proof.Proof.Table

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}
-- The printed arithmetic stays folded: a step's lemma fits the body without running it.
attribute [local irreducible] k0_cond1 k0_cond2 k0_cond3 k0_cond4 k0_cond5 k0_cond6 k0_cond7 k0_cond8 k0_cond9 k0_cond10 k0_cond11 k0_cond12
  k0_cond13 k0_cond14 k0_cond15 k0_cond16

/-- The predecessor's place and the successor's, as the body computes them. -/
abbrev wp' (c : Dev nD) : BitVec 32 := Scalar.remsi (Scalar.subi (Scalar.addi (wd c) 8#32) 1#32) 8#32
abbrev wn' (c : Dev nD) : BitVec 32 := Scalar.remsi (Scalar.addi (wd c) 1#32) 8#32

/-! ## The barrier, the counts -/

theorem part1 (K : Dev nD × Kd → ℕ) (c : Dev nD) (l : List Due) {Q : (Σ' (_ : Dev nD) (_ : BitVec 32) (_ : BitVec 32) (_ : BitVec 32) (_ : Sems sig S_), BitVec 32) → sProp 𝕄} :
    iprop(Rec wb hb K ∗ Owes c (dBar c 0 :: dBar c 1 :: dBar c 2 :: dBar c 3 :: dBar c 4 :: dBar c 5 :: dBar c 6 :: l)
        ∗ BarOut (F := F) c 0 ∗ BarOut (F := F) c 1 ∗ BarOut (F := F) c 2 ∗ BarOut (F := F) c 3 ∗ BarOut (F := F) c 4 ∗ BarOut (F := F) c 5 ∗ BarOut (F := F) c 6)
      ⊢ iprop((Owes c l -∗ Q ⟨c, wd c, wp' c, wn' c, SemArray.scalar (sig.barrier 0 rfl), 7#32⟩) -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Q) := by
  rw [k0_part1_eq_skeleton]; unfold k0_part1_skel
  iintro ⟨#HR, HO, H0, H1, H2, H3, H4, H5, H6⟩ Hk
  iapply (step_id c)
  iapplyF (guard_bar wb hb K c 0 (cond1 c) (fun _ => rfl) rfl _); iintro HO
  iapplyF (guard_bar wb hb K c 1 (cond2 c) (fun _ => rfl) rfl _); iintro HO
  iapplyF (guard_bar wb hb K c 2 (cond3 c) (fun _ => rfl) rfl _); iintro HO
  iapplyF (guard_bar wb hb K c 3 (cond4 c) (fun _ => rfl) rfl _); iintro HO
  iapplyF (guard_bar wb hb K c 4 (cond5 c) (fun _ => rfl) rfl _); iintro HO
  iapplyF (guard_bar wb hb K c 5 (cond6 c) (fun _ => rfl) rfl _); iintro HO
  iapplyF (guard_bar wb hb K c 6 (cond7 c) (fun _ => rfl) rfl _); iintro HO
  iapply (step_ret c)
  iapply Hk
  iexact HO

/-! The printed semaphores of the hops. -/

theorem sem_rs (h : Fin 4) (off : Fin 1 → ℕ) (ho : off = ![h.val]) (inb : ∀ a, off a + S1.size a ≤ S4.size a) :
    SemLoc.dma ((cc0_scratch6.slice (Rect.unit (s := S4) off S1.size inb)).squeeze S_ squeezes_S1_S_).sem = csem (.sn .r h) := by
  subst ho; revert h; decide
theorem sem_rr (h : Fin 4) (off : Fin 1 → ℕ) (ho : off = ![h.val]) (inb : ∀ a, off a + S1.size a ≤ S4.size a) :
    SemLoc.dma ((cc0_scratch7.slice (Rect.unit (s := S4) off S1.size inb)).squeeze S_ squeezes_S1_S_).sem = csem (.rv .r h) := by
  subst ho; revert h; decide
theorem sem_ls (h : Fin 4) (off : Fin 1 → ℕ) (ho : off = ![h.val]) (inb : ∀ a, off a + S1.size a ≤ S4.size a) :
    SemLoc.dma ((cc0_scratch8.slice (Rect.unit (s := S4) off S1.size inb)).squeeze S_ squeezes_S1_S_).sem = csem (.sn .l h) := by
  subst ho; revert h; decide
theorem sem_lr (h : Fin 4) (off : Fin 1 → ℕ) (ho : off = ![h.val]) (inb : ∀ a, off a + S1.size a ≤ S4.size a) :
    SemLoc.dma ((cc0_scratch9.slice (Rect.unit (s := S4) off S1.size inb)).squeeze S_ squeezes_S1_S_).sem = csem (.rv .l h) := by
  subst ho; revert h; decide

/-- The own experts, read as stored. -/
theorem get_ew (c : Dev nD) {inb : ∀ a, (![0, 0, 0] : Fin 3 → ℕ) a + S4x512x1024.size a ≤ S4x512x1024.size a}
    {hl : (Memref.whole cc0_scratch1 : Memref sig .tc _ _ _).view.LoadsAt (Rect.unit (s := S4x512x1024) ![0, 0, 0] S4x512x1024.size inb).toLoadRect}
    {k : Vec F S4x512x1024 .bf16 → Prog (TpuEff nD τ sig (Elt F) Λ₀ .tc) α} {q : PosShare TreeShare} {f : Vec F S4x512x1024 .bf16} {Q : α → sProp 𝕄} :
    ewPts c q f ⊢ iprop((ewPts c q f -∗ run c (k f) Q) -∗ run c (Prog.lift (.load (Memref.whole cc0_scratch1) (Rect.unit (s := S4x512x1024) ![0, 0, 0] S4x512x1024.size inb).toLoadRect hl) >>= k) Q) :=
  step_get c zero3
/-- The own experts, stored. -/
theorem put_ew (c : Dev nD) {inb : ∀ a, (![0, 0, 0] : Fin 3 → ℕ) a + S4x512x1024.size a ≤ S4x512x1024.size a} {w : Vec F S4x512x1024 .bf16}
    {hx : ((Memref.whole cc0_scratch1).access (Rect.unit (s := S4x512x1024) ![0, 0, 0] S4x512x1024.size inb) : View sig .tc _ _ _).Stores Finset.univ}
    {hm : (Finset.univ : Finset (Rect.unit (s := S4x512x1024) ![0, 0, 0] S4x512x1024.size inb).shape.Idx) = Finset.univ ∨ ∀ a, (Rect.unit (s := S4x512x1024) ![0, 0, 0] S4x512x1024.size inb).stride a = 1}
    {k : PUnit → Prog (TpuEff nD τ sig (Elt F) Λ₀ .tc) α} {f : Vec F S4x512x1024 .bf16} {Q : α → sProp 𝕄} :
    ewPts c fullShare f ⊢ iprop((ewPts c fullShare w -∗ run c (k PUnit.unit) Q)
      -∗ run c (Prog.lift (.store (Memref.whole cc0_scratch1) (Rect.unit (s := S4x512x1024) ![0, 0, 0] S4x512x1024.size inb) w Finset.univ hx hm) >>= k) Q) :=
  step_put c zero3
/-- The own experts: half to read from, a quarter for each stream's first hop. -/
theorem ew_cut (c : Dev nD) (f : Vec F S4x512x1024 .bf16) : ewPts c fullShare f ⊢ iprop(ewPts c fullShare.left f ∗ ewPts c (ewShare .r) f ∗ ewPts c (ewShare .l) f) := by
  unfold ewPts
  iintro H
  icases (pointsTo_share (PosShare.mem_left_op_right fullShare)).1 $$ H with ⟨H, H'⟩
  icases (pointsTo_share (PosShare.mem_left_op_right fullShare.right)).1 $$ H' with ⟨H', H''⟩
  isplitl [H]; · iexact H
  isplitl [H']; · iexact H'
  iexact H''
/-- A landing buffer's two slots. -/
theorem any_cut (c : Dev nD) (s : Side) : anyBuf (F := F) c s Finset.univ ⊢ iprop(anyBuf (F := F) c s (slotS 1) ∗ anyBuf (F := F) c s (slotS 0)) := by
  unfold anyBuf
  iintro ⟨%f, H⟩
  icases (buf_cut c s (Finset.subset_univ (slotS 1)) fullShare f).1 $$ H with ⟨H, H'⟩
  irwh [slot_compl] at H'
  isplitl [H]
  · iexists f; iexact H
  iexists f; iexact H'
theorem row_load_set (p : ℕ) (off : Fin 2 → ℕ) (ho : off = ![p, 0]) (inb) :
    (Memref.whole cc0_scratch0 : Memref sig .tc .vmem S8x32 .f32).view.setOn (Rect.unit (s := S8x32) off S1x32.size inb).toLoadRect.set ⊆ rowS p := by
  rw [← row_set p off ho inb]; exact subset_of_eq (Finset.map_refl)

/-- A row of the table, read: what it held does not matter. -/
theorem get_row (c p : Dev nD) (off : Fin 2 → ℕ) (ho : off = ![p.val, 0]) {inb : ∀ a, off a + S1x32.size a ≤ S8x32.size a}
    {hl : (Memref.whole cc0_scratch0 : Memref sig .tc _ _ _).view.LoadsAt (Rect.unit (s := S8x32) off S1x32.size inb).toLoadRect}
    {k : Vec F S1x32 .f32 → Prog (TpuEff nD τ sig (Elt F) Λ₀ .tc) α} {q : PosShare TreeShare} {f : Vec F S8x32 .f32} {Q : α → sProp 𝕄} :
    hisPts c (rowS p.val) q f ⊢ iprop((hisPts c (rowS p.val) q f -∗ run c (k ((Memref.whole cc0_scratch0 : Memref sig .tc _ _ _).view.readAt (Elt F) (Rect.unit (s := S8x32) off S1x32.size inb).toLoadRect f)) Q)
      -∗ run c (Prog.lift (.load (Memref.whole cc0_scratch0) (Rect.unit (s := S8x32) off S1x32.size inb).toLoadRect hl) >>= k) Q) :=
  step_load c (m := Memref.whole cc0_scratch0) (row_load_set p.val off ho inb) rfl rfl
/-- A row of the table, stored. -/
theorem put_row (c p : Dev nD) (off : Fin 2 → ℕ) (ho : off = ![p.val, 0]) {inb : ∀ a, off a + S1x32.size a ≤ S8x32.size a} {R : Dev nD → Vec F S1x32 .f32}
    {w : Vec F S1x32 .f32} {hR : R p = w}
    {hx : ((Memref.whole cc0_scratch0).access (Rect.unit (s := S8x32) off S1x32.size inb) : View sig .tc _ _ _).Stores Finset.univ}
    {hm : (Finset.univ : Finset (Rect.unit (s := S8x32) off S1x32.size inb).shape.Idx) = Finset.univ ∨ ∀ a, (Rect.unit (s := S8x32) off S1x32.size inb).stride a = 1}
    {k : PUnit → Prog (TpuEff nD τ sig (Elt F) Λ₀ .tc) α} {f : Vec F S8x32 .f32} {Q : α → sProp 𝕄} :
    hisPts c (rowS p.val) fullShare f ⊢ iprop((hisPts c (rowS p.val) fullShare (tbl R) -∗ run c (k PUnit.unit) Q)
      -∗ run c (Prog.lift (.store (Memref.whole cc0_scratch0) (Rect.unit (s := S8x32) off S1x32.size inb) w Finset.univ hx hm) >>= k) Q) := by
  subst hR
  have hS : ((Memref.whole cc0_scratch0 : Memref sig .tc .vmem S8x32 .f32).access (Rect.unit (s := S8x32) off S1x32.size inb)).setOn Finset.univ ⊆ rowS p.val :=
    subset_of_eq ((View.set_slice_whole (sig := sig) (κ := .tc) cc0_scratch0 (Rect.unit (s := S8x32) off S1x32.size inb)).trans (row_set p.val off ho inb))
  have hP : (((Memref.whole cc0_scratch0 : Memref sig .tc .vmem S8x32 .f32).access (Rect.unit (s := S8x32) off S1x32.size inb)).loc (c : Thread nD τ) ↦[rowS p.val]{fullShare} f)
    = hisPts c (rowS p.val) fullShare f := rfl
  exact step_store c (m := Memref.whole cc0_scratch0) (r := Rect.unit (s := S8x32) off S1x32.size inb) (w := R p) (S := rowS p.val) (f := f) hS hP (store_row R p c off ho inb f)

theorem part2 (K : Dev nD × Kd → ℕ) (c : Dev nD) (l : List Due) (hl : below 1 (dHop c .r 0 :: l) = true) (r : Vec F S1024x1 .i32) (e : Vec F S4x512x1024 .f32)
    (hwb : wb c = k0_pay3 e) (R : Dev nD → Vec F S1x32 .f32) (hhb : hb = tbl R) (hR : R c = k0_pay4 r)
    {Q : (Σ' (_ : IVec S1024x1 32), FVec F S1024x32 .f32) → sProp 𝕄} :
    iprop(Rec wb hb K ∗ Owes c (dBar c 7 :: dHop c .r 0 :: l) ∗ BarOut (F := F) c 7 ∗ at' c .bar 0 ∗ cred (tallyAt (kcell (c, .bar)) 0 7)
        ∗ ((c : Thread nD τ).loc cc0_stg1_0 ↦{fullShare} r) ∗ ((c : Thread nD τ).loc cc0_stg2_0 ↦{fullShare} e)
        ∗ (∃ f, ewPts c fullShare f) ∗ (∃ f, hisPts c (rowS c.val) fullShare f) ∗ tS c .r 0 ∗ tV c .r 0)
      ⊢ iprop(((Owes c l ∗ at' c .bar 1 ∗ ((c : Thread nD τ).loc cc0_stg1_0 ↦{fullShare} r) ∗ ((c : Thread nD τ).loc cc0_stg2_0 ↦{fullShare} e)
          ∗ ewPts c fullShare.left (wb c) ∗ ewPts c (ewShare .l) (wb c) ∗ hisPts c (rowS c.val) fullShare hb ∗ bigSep Finset.univ (RowDst (F := F) c)
          ∗ anyBuf (F := F) (nxt .r c) .r (slotS 0) ∗ anyBuf (F := F) (nxt .l c) .l Finset.univ ∗ cS c .r 0) -∗ Q ⟨k0_pay1 r, k0_pay2 r⟩)
        -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c (wd c) (wn' c) (SemArray.scalar (sig.barrier 0 rfl)) 7#32) Q) := by
  rw [k0_part2_eq_skeleton]; unfold k0_part2_skel
  iintro ⟨#HR, HO, H7, Ha, Hc, Hr, He, ⟨%fe, Hf⟩, ⟨%fh, Hh⟩, HtS, HtV⟩ Hk
  iapplyF (guard_bar wb hb K c 7 (cond8 c) (fun _ => rfl) rfl _); iintro HO
  iapplyF (wait_bar wb hb K c rfl _ hl); iintro ⟨HO, Ha, Hb⟩
  ihave Hb := (bar_split c) $$ Hb
  icases Hb with ⟨Hd, Hbr, Hbl⟩
  iapply (step_get c zero2) $$ Hr; iintro Hr
  iapply (step_get c zero3) $$ He; iintro He
  iapply (get_ew c) $$ Hf; iintro Hf
  iapply (put_ew c) $$ Hf; iintro Hf
  iapply (get_row c c _ (off1 c)) $$ Hh; iintro Hh
  iapply (put_row c c _ (off1 c) (R := R) (hR := hR)) $$ Hh; iintro Hh
  irwh [← hhb] at Hh
  rw [← hwb]
  ihave Hf := (ew_cut c (wb c)) $$ Hf
  icases Hf with ⟨Hf, Hfr, Hfl⟩
  ihave Hbr := (any_cut (nxt .r c) .r) $$ Hbr
  icases Hbr with ⟨Hb1, Hb0⟩
  iapply (hop0 wb hb K c .r (dev9 c) (sem_rs 0 _ rfl _) (sem_rr 0 _ rfl _) l) $$ [Hfr Hb1 HO HtS HtV]
  · iclose
  iintro ⟨Hs, HO⟩
  iapply (step_ret c)
  iapply Hk
  iclose

end Cert.KernelIdeal.Talk
-- ==== Proof.Parts2.lean ====
/-
  The copies of the rows of counts, and the waits for them, on any device.
-/
module

public import proofs.«01_k».proof.Proof.Parts

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

-- The printed arithmetic stays folded: a step's lemma fits the body without running it.
attribute [local irreducible] k0_cond1 k0_cond2 k0_cond3 k0_cond4 k0_cond5 k0_cond6 k0_cond7 k0_cond8 k0_cond9 k0_cond10 k0_cond11 k0_cond12
  k0_cond13 k0_cond14 k0_cond15 k0_cond16

theorem part3 (K : Dev nD × Kd → ℕ) (c : Dev nD) (l : List Due) {Q : (Σ' (_ : BitVec 32), BitVec 32) → sProp 𝕄} :
    iprop(Rec wb hb K ∗ Owes c (dHop c .l 0 :: dRow c 0 :: dRow c 1 :: dRow c 2 :: dRow c 3 :: dRow c 4 :: dRow c 5 :: dRow c 6 :: l)
        ∗ ewPts c (ewShare .l) (wb c) ∗ anyBuf (F := F) (nxt .l c) .l (slotS 1) ∗ tS c .l 0 ∗ tV c .l 0
        ∗ RowOut hb c 0 ∗ RowOut hb c 1 ∗ RowOut hb c 2 ∗ RowOut hb c 3 ∗ RowOut hb c 4 ∗ RowOut hb c 5 ∗ RowOut hb c 6)
      ⊢ iprop(((Owes c l ∗ cS c .l 0 ∗ RowCred (F := F) c 0 ∗ RowCred (F := F) c 1 ∗ RowCred (F := F) c 2 ∗ RowCred (F := F) c 3 ∗ RowCred (F := F) c 4 ∗ RowCred (F := F) c 5 ∗ RowCred (F := F) c 6)
          -∗ Q ⟨Scalar.extui (Scalar.cmpi .ne (wd c) 7#32), 0#32⟩)
        -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c (wd c) (wp' c)) Q) := by
  rw [k0_part3_eq_skeleton]; unfold k0_part3_skel
  iintro ⟨#HR, HO, He, Hb, HtS, HtV, H0, H1, H2, H3, H4, H5, H6⟩ Hk
  iapply (hop0 wb hb K c .l (dev10 c) (sem_ls 0 _ rfl _) (sem_lr 0 _ rfl _) _) $$ [He Hb HO HtS HtV]
  · iclose
  iintro ⟨Hs, HO⟩
  iapplyF (guard_row wb hb K c 0 (cond9 c) (fun _ => rfl) (sem_hs 0 _ rfl _) (fun _ => sem_hr c _ (off2 c) _) _ (off3 c) _ _); iintro ⟨HO, H0⟩
  iapplyF (guard_row wb hb K c 1 (cond10 c) (fun _ => rfl) (sem_hs 1 _ rfl _) (fun _ => sem_hr c _ (off4 c) _) _ (off5 c) _ _); iintro ⟨HO, H1⟩
  iapplyF (guard_row wb hb K c 2 (cond11 c) (fun _ => rfl) (sem_hs 2 _ rfl _) (fun _ => sem_hr c _ (off6 c) _) _ (off7 c) _ _); iintro ⟨HO, H2⟩
  iapplyF (guard_row wb hb K c 3 (cond12 c) (fun _ => rfl) (sem_hs 3 _ rfl _) (fun _ => sem_hr c _ (off8 c) _) _ (off9 c) _ _); iintro ⟨HO, H3⟩
  iapplyF (guard_row wb hb K c 4 (cond13 c) (fun _ => rfl) (sem_hs 4 _ rfl _) (fun _ => sem_hr c _ (off10 c) _) _ (off11 c) _ _); iintro ⟨HO, H4⟩
  iapplyF (guard_row wb hb K c 5 (cond14 c) (fun _ => rfl) (sem_hs 5 _ rfl _) (fun _ => sem_hr c _ (off12 c) _) _ (off13 c) _ _); iintro ⟨HO, H5⟩
  iapplyF (guard_row wb hb K c 6 (cond15 c) (fun _ => rfl) (sem_hs 6 _ rfl _) (fun _ => sem_hr c _ (off14 c) _) _ (off15 c) _ _); iintro ⟨HO, H6⟩
  iapply (step_ret c)
  iapply Hk
  iclose

end Cert.KernelIdeal.Talk
-- ==== Proof.Parts3.lean ====
/-
  The waits for the rows of counts, and the table read, on any device.
-/
module

public import proofs.«01_k».proof.Proof.Parts2

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

-- The printed arithmetic stays folded: a step's lemma fits the body without running it.
attribute [local irreducible] k0_cond16 Scalar.cmpi Scalar.extui

/-- A device's waits for the rows exchanged with all peers: what it brings, -/
noncomputable def RowWait (c p : Dev nD) : sProp 𝕄 := iprop(RowAt (F := F) c p ∗ RowDue (F := F) c p)

/-- The whole table, read. -/
theorem get_his (c : Dev nD) {inb : ∀ a, (![0, 0] : Fin 2 → ℕ) a + S8x32.size a ≤ S8x32.size a}
    {hl : (Memref.whole cc0_scratch0 : Memref sig .tc _ _ _).view.LoadsAt (Rect.unit (s := S8x32) ![0, 0] S8x32.size inb).toLoadRect}
    {k : Vec F S8x32 .f32 → Prog (TpuEff nD τ sig (Elt F) Λ₀ .tc) α} {q : PosShare TreeShare} {f : Vec F S8x32 .f32} {Q : α → sProp 𝕄} :
    hisPts c Finset.univ q f ⊢ iprop((hisPts c Finset.univ q f -∗ run c (k f) Q)
      -∗ run c (Prog.lift (.load (Memref.whole cc0_scratch0) (Rect.unit (s := S8x32) ![0, 0] S8x32.size inb).toLoadRect hl) >>= k) Q) :=
  step_get c zero2

theorem part4 (K : Dev nD × Kd → ℕ) (c : Dev nD) (l : List Due) (hl : below 2 l = true) {Q : FVec F S8x32 .f32 → sProp 𝕄} :
    iprop(Rec wb hb K ∗ Owes c (dRow c 7 :: l) ∗ RowOut hb c 7 ∗ hisPts c (rowS c.val) (rowShare c) hb
        ∗ (RowCred (F := F) c 0 ∗ RowCred (F := F) c 1 ∗ RowCred (F := F) c 2 ∗ RowCred (F := F) c 3 ∗ RowCred (F := F) c 4 ∗ RowCred (F := F) c 5 ∗ RowCred (F := F) c 6)
        ∗ bigSep Finset.univ (fun p => RowWait (F := F) c p))
      ⊢ iprop(((Owes c l ∗ bigSep Finset.univ (fun p => RowEnd (F := F) c p) ∗ hisPts c Finset.univ fullShare hb) -∗ Q (k0_pay5 (wd c) hb))
        -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c (wd c) (Scalar.extui (Scalar.cmpi .ne (wd c) 7#32)) 0#32) Q) := by
  rw [k0_part4_eq_skeleton]; unfold k0_part4_skel
  rw [bigSep_eight]
  unfold RowWait
  iintro ⟨#HR, HO, H7, Hown, ⟨C0, C1, C2, C3, C4, C5, C6⟩, ⟨A0, D0⟩, ⟨A1, D1⟩, ⟨A2, D2⟩, ⟨A3, D3⟩, ⟨A4, D4⟩, ⟨A5, D5⟩, ⟨A6, D6⟩, ⟨A7, D7⟩⟩ Hk
  iapplyF (guard_row wb hb K c 7 (cond16 c) (fun _ => rfl) (sem_hs 7 _ rfl _) (fun _ => sem_hr c _ (off16 c) _) _ (off17 c) _ _); iintro ⟨HO, C7⟩
  iapplyF (guard_in wb hb K c 0 (cond_in c 0) (sem_hs 0 _ rfl _) (sem_hr 0 _ rfl _) l hl); iintro ⟨HO, A0, I0⟩
  iapplyF (guard_in wb hb K c 1 (cond_in c 1) (sem_hs 1 _ rfl _) (sem_hr 1 _ rfl _) l hl); iintro ⟨HO, A1, I1⟩
  iapplyF (guard_in wb hb K c 2 (cond_in c 2) (sem_hs 2 _ rfl _) (sem_hr 2 _ rfl _) l hl); iintro ⟨HO, A2, I2⟩
  iapplyF (guard_in wb hb K c 3 (cond_in c 3) (sem_hs 3 _ rfl _) (sem_hr 3 _ rfl _) l hl); iintro ⟨HO, A3, I3⟩
  iapplyF (guard_in wb hb K c 4 (cond_in c 4) (sem_hs 4 _ rfl _) (sem_hr 4 _ rfl _) l hl); iintro ⟨HO, A4, I4⟩
  iapplyF (guard_in wb hb K c 5 (cond_in c 5) (sem_hs 5 _ rfl _) (sem_hr 5 _ rfl _) l hl); iintro ⟨HO, A5, I5⟩
  iapplyF (guard_in wb hb K c 6 (cond_in c 6) (sem_hs 6 _ rfl _) (sem_hr 6 _ rfl _) l hl); iintro ⟨HO, A6, I6⟩
  iapplyF (guard_in wb hb K c 7 (cond_in c 7) (sem_hs 7 _ rfl _) (sem_hr 7 _ rfl _) l hl); iintro ⟨HO, A7, I7⟩
  ihave H := (row_join hb c) $$ [Hown I0 I1 I2 I3 I4 I5 I6 I7]
  · rw [bigSep_eight]
    iclose
  iapply (get_his c) $$ H; iintro H
  iapply (step_ret c)
  iapply Hk
  rw [bigSep_eight]
  iclose

theorem part5 (c : Dev nD) (v40 : FVec F S1024x32 .f32) (v124 : FVec F S8x32 .f32) {Q : (Σ' (_ : IVec S1024x32 1), F .f32) → sProp 𝕄} :
    Q ⟨k0_pay6 v40 v124, Scalar.ofBits .f32 0x00000000#32⟩ ⊢ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v40 v124) Q := by
  rw [k0_part5_eq_skeleton]; unfold k0_part5_skel
  exact step_ret c _

end Cert.KernelIdeal.Talk
-- ==== Proof.Streams.lean ====
/-
  The steps of the streams, as the body prints them, on any device.
-/
module

public import proofs.«01_k».proof.Proof.Parts3

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

theorem below_le {a b : ℕ} (h : a ≤ b) {l : List Due} (hl : below b l = true) : below a l = true := by
  refine List.all_eq_true.mpr fun e he => ?_
  have := List.all_eq_true.mp hl e he
  rw [Bool.and_eq_true] at this ⊢
  exact ⟨Nat.blt_eq.mpr (lt_of_le_of_lt h (Nat.blt_eq.mp this.1)), this.2⟩

/-! ## Waits for what carries a whole slot, or half of one -/

section Waits
variable (K : Dev nD × Kd → ℕ) (c : Dev nD) (k : Kd) {sem : DmaSem sig} (hs : SemLoc.dma sem = csem k) (hd : dutiesK c k 0 = {0})
variable {sp' : Space} {s' : Shape} {e' : EltTy} {src : Memref sig .tc sp' s' e'} {h₁ : src.view.WordExact}
variable {kont : Prog (TpuEff nD τ sig (Elt F) Λ₀ .tc) α}

include hs hd

theorem wait_own {P : sProp 𝕄} (hP : payloadK wb hb c k 0 0 = P) (l : List Due) (hl : below (lvK k 0) l = true) (hk : amountK k = nSlot) {h₂ : (Memref.whole cc0_scratch1 : Memref sig .tc .vmem S4x512x1024 .bf16).view.WordExact} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src (Memref.whole cc0_scratch1) h₁ h₂) >>= fun _ => kont) Q) :=
  wait_dma wb hb K c k hs hd hk.symm hP l hl
theorem wait_slot_r {P : sProp 𝕄} (hP : payloadK wb hb c k 0 0 = P) (l : List Due) (hl : below (lvK k 0) l = true) (hk : amountK k = nSlot) {j : ℕ} {inb} {h₂ : (slotM (bufM .r) j inb).view.WordExact} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src (slotM (bufM .r) j inb) h₁ h₂) >>= fun _ => kont) Q) :=
  wait_dma wb hb K c k hs hd (Eq.trans (show (slotM (bufM .r) j inb).view.dmaCredit = nSlot from rfl) hk.symm) hP l hl
theorem wait_slot_l {P : sProp 𝕄} (hP : payloadK wb hb c k 0 0 = P) (l : List Due) (hl : below (lvK k 0) l = true) (hk : amountK k = nSlot) {j : ℕ} {inb} {h₂ : (slotM (bufM .l) j inb).view.WordExact} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src (slotM (bufM .l) j inb) h₁ h₂) >>= fun _ => kont) Q) :=
  wait_dma wb hb K c k hs hd (Eq.trans (show (slotM (bufM .l) j inb).view.dmaCredit = nSlot from rfl) hk.symm) hP l hl
theorem wait_half_r {P : sProp 𝕄} (hP : payloadK wb hb c k 0 0 = P) (l : List Due) (hl : below (lvK k 0) l = true) (hk : amountK k = nHalf) {j : ℕ} {inb} {h₂ : (halfM (bufM .r) j 0 inb).view.WordExact} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src (halfM (bufM .r) j 0 inb) h₁ h₂) >>= fun _ => kont) Q) :=
  wait_dma wb hb K c k hs hd (Eq.trans (show (halfM (bufM .r) j 0 inb).view.dmaCredit = nHalf from rfl) hk.symm) hP l hl
theorem wait_half_l {P : sProp 𝕄} (hP : payloadK wb hb c k 0 0 = P) (l : List Due) (hl : below (lvK k 0) l = true) (hk : amountK k = nHalf) {j : ℕ} {inb} {h₂ : (halfM (bufM .l) j 2 inb).view.WordExact} {Q : α → sProp 𝕄} :
    iprop(Rec wb hb K ∗ cred (tallyAt (kcell (c, k)) 0 (amountK k)) ∗ Owes c l ∗ at' c k 0)
      ⊢ iprop(((Owes c l ∗ at' c k 1 ∗ P) -∗ run c kont Q) -∗ run c (Prog.lift (.waitDma2 sem src (halfM (bufM .l) j 2 inb) h₁ h₂) >>= fun _ => kont) Q) :=
  wait_dma wb hb K c k hs hd (Eq.trans (show (halfM (bufM .l) j 2 inb).view.dmaCredit = nHalf from rfl) hk.symm) hP l hl
end Waits

/-! ## Loads of a slot, or half of one -/

theorem get_slot_r (c : Dev nD) (j : ℕ) {inb : ∀ a, (![j, 0, 0, 0] : Fin 4 → ℕ) a + S1x4x512x1024.size a ≤ S2x4x512x1024.size a}
    {hl : (Memref.whole cc0_scratch2 : Memref sig .tc _ _ _).view.LoadsAt (Rect.unit (s := S2x4x512x1024) ![j, 0, 0, 0] S1x4x512x1024.size inb).toLoadRect}
    {k : Vec F S1x4x512x1024 .bf16 → Prog (TpuEff nD τ sig (Elt F) Λ₀ .tc) α} {q : PosShare TreeShare} {w : Vec F S4x512x1024 .bf16} {Q : α → sProp 𝕄} :
    bufPts c .r (slotS j) q (spread w) ⊢ iprop((bufPts c .r (slotS j) q (spread w) -∗ run c (k (up4 w)) Q)
      -∗ run c (Prog.lift (.load (Memref.whole cc0_scratch2) (Rect.unit (s := S2x4x512x1024) ![j, 0, 0, 0] S1x4x512x1024.size inb).toLoadRect hl) >>= k) Q) :=
  step_load c (m := Memref.whole cc0_scratch2) (f := spread w) (load_slot_set_r j inb) rfl (load_slot_r w j inb)
theorem get_slot_l (c : Dev nD) (j : ℕ) {inb : ∀ a, (![j, 0, 0, 0] : Fin 4 → ℕ) a + S1x4x512x1024.size a ≤ S2x4x512x1024.size a}
    {hl : (Memref.whole cc0_scratch3 : Memref sig .tc _ _ _).view.LoadsAt (Rect.unit (s := S2x4x512x1024) ![j, 0, 0, 0] S1x4x512x1024.size inb).toLoadRect}
    {k : Vec F S1x4x512x1024 .bf16 → Prog (TpuEff nD τ sig (Elt F) Λ₀ .tc) α} {q : PosShare TreeShare} {w : Vec F S4x512x1024 .bf16} {Q : α → sProp 𝕄} :
    bufPts c .l (slotS j) q (spread w) ⊢ iprop((bufPts c .l (slotS j) q (spread w) -∗ run c (k (up4 w)) Q)
      -∗ run c (Prog.lift (.load (Memref.whole cc0_scratch3) (Rect.unit (s := S2x4x512x1024) ![j, 0, 0, 0] S1x4x512x1024.size inb).toLoadRect hl) >>= k) Q) :=
  step_load c (m := Memref.whole cc0_scratch3) (f := spread w) (load_slot_set_l j inb) rfl (load_slot_l w j inb)
theorem get_half_r (c : Dev nD) {inb : ∀ a, (![0, 0, 0, 0] : Fin 4 → ℕ) a + S1x2x512x1024.size a ≤ S2x4x512x1024.size a}
    {hl : (Memref.whole cc0_scratch2 : Memref sig .tc _ _ _).view.LoadsAt (Rect.unit (s := S2x4x512x1024) ![0, 0, 0, 0] S1x2x512x1024.size inb).toLoadRect}
    {k : Vec F S1x2x512x1024 .bf16 → Prog (TpuEff nD τ sig (Elt F) Λ₀ .tc) α} {q : PosShare TreeShare} {w : Vec F S4x512x1024 .bf16} {Q : α → sProp 𝕄} :
    bufPts c .r (halfS .r 0) q (spread w) ⊢ iprop((bufPts c .r (halfS .r 0) q (spread w) -∗ run c (k (up2 0 inb w)) Q)
      -∗ run c (Prog.lift (.load (Memref.whole cc0_scratch2) (Rect.unit (s := S2x4x512x1024) ![0, 0, 0, 0] S1x2x512x1024.size inb).toLoadRect hl) >>= k) Q) :=
  step_load c (m := Memref.whole cc0_scratch2) (f := spread w) (load_half_set_r inb) rfl rfl
theorem get_half_l (c : Dev nD) {inb : ∀ a, (![0, 2, 0, 0] : Fin 4 → ℕ) a + S1x2x512x1024.size a ≤ S2x4x512x1024.size a}
    {hl : (Memref.whole cc0_scratch3 : Memref sig .tc _ _ _).view.LoadsAt (Rect.unit (s := S2x4x512x1024) ![0, 2, 0, 0] S1x2x512x1024.size inb).toLoadRect}
    {k : Vec F S1x2x512x1024 .bf16 → Prog (TpuEff nD τ sig (Elt F) Λ₀ .tc) α} {q : PosShare TreeShare} {w : Vec F S4x512x1024 .bf16} {Q : α → sProp 𝕄} :
    bufPts c .l (halfS .l 0) q (spread w) ⊢ iprop((bufPts c .l (halfS .l 0) q (spread w) -∗ run c (k (up2 2 inb w)) Q)
      -∗ run c (Prog.lift (.load (Memref.whole cc0_scratch3) (Rect.unit (s := S2x4x512x1024) ![0, 2, 0, 0] S1x2x512x1024.size inb).toLoadRect hl) >>= k) Q) :=
  step_load c (m := Memref.whole cc0_scratch3) (f := spread w) (load_half_set_l inb) rfl rfl

/-- The result so far. -/
abbrev outPts (c : Dev nD) (f : Vec F S1024x1024 .f32) : sProp 𝕄 := (c : Thread nD τ).loc cc0_stg3_0 ↦{fullShare} f

theorem any_join (c : Dev nD) (s : Side) (I : Finset S2x4x512x1024.Idx) (f : Vec F S2x4x512x1024 .bf16) :
    iprop(bufPts c s I fullShare.left f ∗ bufPts c s I fullShare.right f) ⊢ anyBuf (F := F) c s I := by
  unfold anyBuf
  iintro H
  iexists f
  iapply (buf_share c s I fullShare f).2 $$ H

/-- What the successor's words hand over. -/
theorem cr_slot (c : Dev nD) (s : Side) : crPay (F := F) c s 0 ⊢ anyBuf (F := F) (nxt s c) s (slotS 1) := Entails.of_eq rfl
theorem cr_half (c : Dev nD) (s : Side) : crPay (F := F) c s 1 ⊢ anyBuf (F := F) (nxt s c) s (halfS s 0) := Entails.of_eq rfl

theorem sem_cr_r : SemLoc.reg cc0_scratch10.sem = csem (.cr .r) := rfl
theorem sem_cr_l : SemLoc.reg cc0_scratch11.sem = csem (.cr .l) := rfl

end Cert.KernelIdeal.Talk
-- ==== Proof.Parts4.lean ====
/-
  The body.s parts around the first two hops, on any device.
-/
module

public import proofs.«01_k».proof.Proof.Streams

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

theorem part6 (c : Dev nD) (v2 : BitVec 32) (v34 : IVec S1024x1 32) (v40 : FVec F S1024x32 .f32) (v171 : IVec S1024x32 1) (z : F .f32) (x : Vec F S1024x512 .f32) (w : Vec F S4x512x1024 .bf16)
    {Q : (Σ' (_ : FVec F S1024x1 .f32) (_ : FVec F S1024x512 .bf16) (_ : Vec F S4x512x1024 .bf16) (_ : FVec F S1024x512 .bf16) (_ : FVec F S1024x512 .bf16) (_ : FVec F S1024x512 .bf16), BitVec 32) → sProp 𝕄} :
    iprop(((c : Thread nD τ).loc cc0_stg0_0 ↦{fullShare} x) ∗ (∃ f, outPts c f) ∗ ewPts c fullShare.left w)
      ⊢ iprop(((((c : Thread nD τ).loc cc0_stg0_0 ↦{fullShare} x) ∗ outPts c (k0_pay9 (F := F)) ∗ ewPts c fullShare.left w)
          -∗ Q ⟨k0_pay7 v40 v171 z, k0_pay8 x, w, k0_pay10 v2 v34 v40 v171 z x, k0_pay11 v2 v34 v40 v171 z x, k0_pay12 v2 v34 v40 v171 z x, Scalar.addi (Scalar.muli v2 4#32) 3#32⟩)
        -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v34 v40 v171 z) Q) := by
  rw [k0_part6_eq_skeleton]; unfold k0_part6_skel
  iintro ⟨Hx, ⟨%f, Ho⟩, He⟩ Hk
  iapply (step_get c zero2) $$ Hx; iintro Hx
  iapply (step_get c zero2) $$ Ho; iintro Ho
  iapply (step_put c zero2) $$ Ho; iintro Ho
  iapply (get_ew c) $$ He; iintro He
  iapply (step_ret c)
  iapply Hk
  iclose

theorem part7 (K : Dev nD × Kd → ℕ) (c : Dev nD) (l : List Due) (hl : below 3 l = true) (v7 : BitVec 32) (v34 : IVec S1024x1 32) (v175 : FVec F S1024x1 .f32) (v178 : FVec F S1024x512 .bf16)
    (v181 : Vec F S4x512x1024 .bf16) (v191 : FVec F S1024x512 .bf16) (v201 : FVec F S1024x512 .bf16) (v211 : FVec F S1024x512 .bf16) (v213 : BitVec 32) (o : Vec F S1024x1024 .f32) {Q : PUnit → sProp 𝕄} :
    iprop(Rec wb hb K ∗ Owes c l ∗ outPts c o ∗ cS c .r 0 ∗ at' c (.sn .r 0) 0 ∗ cV c .r 0 ∗ at' c (.rv .r 0) 0 ∗ cS c .l 0 ∗ at' c (.sn .l 0) 0)
      ⊢ iprop(((Owes c l ∗ outPts c (k0_pay13 v34 v175 v178 v181 v191 v201 v211 v213 o) ∗ at' c (.sn .r 0) 1 ∗ ewPts c (ewShare .r) (wb c)
            ∗ at' c (.rv .r 0) 1 ∗ bufPts c .r (slotS 1) fullShare (spread (wb (org .r 1 c))) ∗ at' c (.sn .l 0) 1 ∗ ewPts c (ewShare .l) (wb c)) -∗ Q PUnit.unit)
        -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v7 v34 v175 v178 v181 v191 v201 v211 v213) Q) := by
  rw [k0_part7_eq_skeleton]; unfold k0_part7_skel
  iintro ⟨#HR, HO, Ho, Cs, As, Cv, Av, Cl, Al⟩ Hk
  iapply (step_get c zero2) $$ Ho; iintro Ho
  iapply (step_get c zero2) $$ Ho; iintro Ho
  iapply (step_put c zero2) $$ Ho; iintro Ho
  iapplyF (wait_own wb hb K c (.sn .r 0) (sem_rs 0 _ rfl _) rfl (P := ewPts c (ewShare .r) (wb c)) rfl l (below_le (by decide) hl) rfl); iintro ⟨HO, As, Hr⟩
  iapplyF (wait_slot_r wb hb K c (.rv .r 0) (sem_rr 0 _ rfl _) rfl (P := bufPts c .r (slotS 1) fullShare (spread (wb (org .r 1 c)))) rfl l hl rfl); iintro ⟨HO, Av, Hv⟩
  iapplyF (wait_own wb hb K c (.sn .l 0) (sem_ls 0 _ rfl _) rfl (P := ewPts c (ewShare .l) (wb c)) rfl l (below_le (by decide) hl) rfl); iintro ⟨HO, Al, Hl⟩
  iapply (step_ret c)
  iapply Hk
  iclose

theorem part8 (K : Dev nD × Kd → ℕ) (c : Dev nD) (l : List Due) (hl : below 3 (dHop c .r 1 :: l) = true) (v5 v7 : BitVec 32) {Q : PUnit → sProp 𝕄} :
    iprop(Rec wb hb K ∗ Owes c (dHop c .r 1 :: l) ∗ cV c .l 0 ∗ at' c (.rv .l 0) 0 ∗ bufPts c .r (slotS 1) fullShare (spread (wb (org .r 1 c)))
        ∗ anyBuf (F := F) (nxt .r c) .r (slotS 0) ∗ tS c .r 1 ∗ tV c .r 1)
      ⊢ iprop(((Owes c l ∗ at' c (.rv .l 0) 1 ∗ bufPts c .l (slotS 1) fullShare (spread (wb (org .l 1 c))) ∗ cS c .r 1
            ∗ bufPts c .r (slotS 1) fullShare.right (spread (wb (org .r 1 c)))) -∗ Q PUnit.unit)
        -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v5 v7) Q) := by
  rw [k0_part8_eq_skeleton]; unfold k0_part8_skel
  iintro ⟨#HR, HO, Cv, Av, Hr, Hb, HtS, HtV⟩ Hk
  iapplyF (wait_slot_l wb hb K c (.rv .l 0) (sem_lr 0 _ rfl _) rfl (P := bufPts c .l (slotS 1) fullShare (spread (wb (org .l 1 c)))) rfl _ hl rfl); iintro ⟨HO, Av, Hv⟩
  icases (buf_share c .r (slotS 1) fullShare _).1 $$ Hr with ⟨Hr, Hr'⟩
  iapply (hop1 wb hb K c .r (dev19 c) (sem_rs 1 _ rfl _) (sem_rr 1 _ rfl _) l) $$ [Hr Hb HO HtS HtV]
  · iclose
  iintro ⟨Hs, HO⟩
  iapply (step_ret c)
  iapply Hk
  iclose

theorem part9 (K : Dev nD × Kd → ℕ) (c : Dev nD) (l : List Due) (v2 : BitVec 32) (v34 : IVec S1024x1 32) (v175 : FVec F S1024x1 .f32) (v178 : FVec F S1024x512 .bf16)
    {Q : (Σ' (_ : FVec F S4x512x1024 .bf16), FVec F S1024x2048 .bf16) → sProp 𝕄} :
    iprop(Rec wb hb K ∗ Owes c (dHop c .l 1 :: l) ∗ bufPts c .l (slotS 1) fullShare (spread (wb (org .l 1 c))) ∗ anyBuf (F := F) (nxt .l c) .l (slotS 0) ∗ tS c .l 1 ∗ tV c .l 1
        ∗ bufPts c .r (slotS 1) fullShare.right (spread (wb (org .r 1 c))))
      ⊢ iprop(((Owes c l ∗ cS c .l 1 ∗ bufPts c .l (slotS 1) fullShare.right (spread (wb (org .l 1 c))) ∗ bufPts c .r (slotS 1) fullShare.right (spread (wb (org .r 1 c))))
          -∗ Q ⟨k0_pay14 (up4 (wb (org .r 1 c))), k0_pay15 v2 v34 v175 v178⟩)
        -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v34 v175 v178) Q) := by
  rw [k0_part9_eq_skeleton]; unfold k0_part9_skel
  iintro ⟨#HR, HO, Hl, Hb, HtS, HtV, Hr⟩ Hk
  icases (buf_share c .l (slotS 1) fullShare _).1 $$ Hl with ⟨Hl, Hl'⟩
  iapply (hop1 wb hb K c .l (dev20 c) (sem_ls 1 _ rfl _) (sem_lr 1 _ rfl _) l) $$ [Hl Hb HO HtS HtV]
  · iclose
  iintro ⟨Hs, HO⟩
  iapply (get_slot_r c 1) $$ Hr; iintro Hr
  iapply (step_ret c)
  iapply Hk
  iclose

theorem part10 (c : Dev nD) (v2 : BitVec 32) (v34 : IVec S1024x1 32) (v175 : FVec F S1024x1 .f32) (v178 : FVec F S1024x512 .bf16) (v272 : FVec F S4x512x1024 .bf16) (v313 : FVec F S1024x2048 .bf16)
    (o : Vec F S1024x1024 .f32) (w : Vec F S4x512x1024 .bf16)
    {Q : (Σ' (_ : FVec F S4x512x1024 .bf16) (_ : FVec F S1024x512 .bf16) (_ : FVec F S1024x512 .bf16) (_ : FVec F S1024x512 .bf16), BitVec 32) → sProp 𝕄} :
    iprop(outPts c o ∗ bufPts c .l (slotS 1) fullShare.right (spread w))
      ⊢ iprop(((outPts c (k0_pay16 v272 v313 o) ∗ bufPts c .l (slotS 1) fullShare.right (spread w))
          -∗ Q ⟨k0_pay17 (up4 w), k0_pay18 v2 v34 v175 v178, k0_pay19 v2 v34 v175 v178, k0_pay20 v2 v34 v175 v178, Scalar.muli (Scalar.remsi (Scalar.addi v2 1#32) 8#32) 4#32⟩)
        -∗ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v34 v175 v178 v272 v313) Q) := by
  rw [k0_part10_eq_skeleton]; unfold k0_part10_skel
  iintro ⟨Ho, Hl⟩ Hk
  iapply (step_get c zero2) $$ Ho; iintro Ho
  iapply (step_get c zero2) $$ Ho; iintro Ho
  iapply (step_put c zero2) $$ Ho; iintro Ho
  iapply (get_slot_l c 1) $$ Hl; iintro Hl
  iapply (step_ret c)
  iapply Hk
  iclose

theorem part11 (K : Dev nD × Kd → ℕ) (c : Dev nD) (l : List Due) (hl : below 0 l = true) (v7 : BitVec 32) (v34 : IVec S1024x1 32) (v175 : FVec F S1024x1 .f32) (v178 : FVec F S1024x512 .bf16)
    (v323 : FVec F S4x512x1024 .bf16) (v333 : FVec F S1024x512 .bf16) (v343 : FVec F S1024x512 .bf16) (v353 : FVec F S1024x512 .bf16) (v354 : BitVec 32) (o : Vec F S1024x1024 .f32) {Q : PUnit → sProp 𝕄} :
    iprop(Rec wb hb K ∗ Owes c l ∗ outPts c o ∗ cS c .r 1 ∗ at' c (.sn .r 1) 0)
      ⊢ iprop(((Owes c l ∗ outPts c (k0_pay21 v34 v175 v178 v323 v333 v343 v353 v354 o) ∗ at' c (.sn .r 1) 1
            ∗ bufPts c .r (slotS 1) fullShare.left (spread (wb (org .r 1 c)))) -∗ Q PUnit.unit)
        -∗ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v7 v34 v175 v178 v323 v333 v343 v353 v354) Q) := by
  rw [k0_part11_eq_skeleton]; unfold k0_part11_skel
  iintro ⟨#HR, HO, Ho, Cs, As⟩ Hk
  iapply (step_get c zero2) $$ Ho; iintro Ho
  iapply (step_get c zero2) $$ Ho; iintro Ho
  iapply (step_put c zero2) $$ Ho; iintro Ho
  iapplyF (wait_slot_r wb hb K c (.sn .r 1) (sem_rs 1 _ rfl _) rfl (P := bufPts c .r (slotS 1) fullShare.left (spread (wb (org .r 1 c)))) rfl l hl rfl); iintro ⟨HO, As, Hr⟩
  iapply (step_ret c)
  iapply Hk
  iclose

theorem part12 (K : Dev nD × Kd → ℕ) (c : Dev nD) (l : List Due) (hl : below 4 (dCr c .r 0 :: dCr c .l 0 :: l) = true) (hl' : below 5 l = true) (v5 v7 : BitVec 32) {Q : PUnit → sProp 𝕄} :
    iprop(Rec wb hb K ∗ Owes c (dCr c .r 0 :: dCr c .l 0 :: l) ∗ cV c .r 1 ∗ at' c (.rv .r 1) 0 ∗ bufPts c .r (slotS 1) fullShare.left (spread (wb (org .r 1 c)))
        ∗ bufPts c .r (slotS 1) fullShare.right (spread (wb (org .r 1 c))) ∗ tC c .r 0 ∗ cS c .l 1 ∗ at' c (.sn .l 1) 0 ∗ cV c .l 1 ∗ at' c (.rv .l 1) 0
        ∗ bufPts c .l (slotS 1) fullShare.right (spread (wb (org .l 1 c))) ∗ tC c .l 0 ∗ cC c .r 0 ∗ at' c (.cr .r) 0)
      ⊢ iprop(((Owes c l ∗ at' c (.rv .r 1) 1 ∗ bufPts c .r (slotS 0) fullShare (spread (wb (org .r 2 c))) ∗ at' c (.sn .l 1) 1 ∗ at' c (.rv .l 1) 1
            ∗ bufPts c .l (slotS 0) fullShare (spread (wb (org .l 2 c))) ∗ at' c (.cr .r) 1 ∗ reached ER (kcell (c, .cr .r)) 1 ∗ anyBuf (F := F) (nxt .r c) .r (slotS 1)) -∗ Q PUnit.unit)
        -∗ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v5 v7) Q) := by
  rw [k0_part12_eq_skeleton]; unfold k0_part12_skel
  iintro ⟨#HR, HO, Cv, Av, Hr, Hr', Tr, Cs, As, Cw, Aw, Hl', Tl, Cc, Ac⟩ Hk
  iapplyF (wait_slot_r wb hb K c (.rv .r 1) (sem_rr 1 _ rfl _) rfl (P := bufPts c .r (slotS 0) fullShare (spread (wb (org .r 2 c)))) rfl _ hl rfl); iintro ⟨HO, Av, Hv⟩
  ihave Hr := (any_join c .r (slotS 1) _) $$ [Hr Hr']
  · iclose
  ihave #Hrr := (Rec_reached wb hb K (prv .r c, .cr .r)) $$ HR
  iapplyF (sig_cr wb hb K c .r 0 (slotS 1) (fun _ => rfl) (dev21 c) sem_cr_r rfl _); iintro HO
  iapplyF (wait_slot_l wb hb K c (.sn .l 1) (sem_ls 1 _ rfl _) rfl (P := bufPts c .l (slotS 1) fullShare.left (spread (wb (org .l 1 c)))) rfl _ (below_le (by decide) (below_tail hl)) rfl); iintro ⟨HO, As, Hl⟩
  iapplyF (wait_slot_l wb hb K c (.rv .l 1) (sem_lr 1 _ rfl _) rfl (P := bufPts c .l (slotS 0) fullShare (spread (wb (org .l 2 c)))) rfl _ (below_tail hl) rfl); iintro ⟨HO, Aw, Hw⟩
  ihave Hl := (any_join c .l (slotS 1) _) $$ [Hl Hl']
  · iclose
  ihave #Hrl := (Rec_reached wb hb K (prv .l c, .cr .l)) $$ HR
  iapplyF (sig_cr wb hb K c .l 0 (slotS 1) (fun _ => rfl) (dev22 c) sem_cr_l rfl _); iintro HO
  iapplyF (wait_cr wb hb K c .r 0 (by decide) sem_cr_r rfl l hl'); iintro ⟨HO, Ac, #Hc, Hb⟩
  ihave Hb := (cr_slot c .r) $$ Hb
  iapply (step_ret c)
  iapply Hk
  iclose

end Cert.KernelIdeal.Talk
-- ==== Proof.Parts5.lean ====
/-
  The body.s parts around the last two hops, on any device.
-/
module

public import proofs.«01_k».proof.Proof.Streams

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

theorem part13 (K : Dev nD × Kd → ℕ) (c : Dev nD) (l : List Due) (hl : below 5 (dHop c .l 2 :: l) = true) (v2 v5 v7 : BitVec 32)
    {Q : (Σ' (_ : BitVec 32) (_ : FVec F S4x512x1024 .bf16), IVec S1024x1 32) → sProp 𝕄} :
    iprop(Rec wb hb K ∗ Owes c (dHop c .r 2 :: dHop c .l 2 :: l) ∗ bufPts c .r (slotS 0) fullShare (spread (wb (org .r 2 c))) ∗ anyBuf (F := F) (nxt .r c) .r (slotS 1)
        ∗ reached ER (kcell (c, .cr .r)) 1 ∗ tS c .r 2 ∗ tV c .r 2 ∗ cC c .l 0 ∗ at' c (.cr .l) 0
        ∗ bufPts c .l (slotS 0) fullShare (spread (wb (org .l 2 c))) ∗ tS c .l 2 ∗ tV c .l 2)
      ⊢ iprop(((Owes c l ∗ cS c .r 2 ∗ bufPts c .r (slotS 0) fullShare.right (spread (wb (org .r 2 c))) ∗ at' c (.cr .l) 1 ∗ cS c .l 2
            ∗ bufPts c .l (slotS 0) fullShare.right (spread (wb (org .l 2 c))))
          -∗ Q ⟨Scalar.remsi (Scalar.addi v2 6#32) 8#32, k0_pay22 (up4 (wb (org .r 2 c))), k0_pay23 v2⟩)
        -∗ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v5 v7) Q) := by
  rw [k0_part13_eq_skeleton]; unfold k0_part13_skel
  iintro ⟨#HR, HO, Hr, Hb, #Hc, TS, TV, Cc, Ac, Hl, TS', TV'⟩ Hk
  icases (buf_share c .r (slotS 0) fullShare _).1 $$ Hr with ⟨Hr, Hr'⟩
  icases (buf_share c .l (slotS 0) fullShare _).1 $$ Hl with ⟨Hl, Hl'⟩
  iapply (hop2 wb hb K c .r (dev23 c) (sem_rs 2 _ rfl _) (sem_rr 2 _ rfl _) _) $$ [Hr Hb HO TS TV]
  · iclose
  iintro ⟨Hs, HO⟩
  iapplyF (wait_cr wb hb K c .l 0 (by decide) sem_cr_l rfl _ hl); iintro ⟨HO, Ac, #Hd, Hb⟩
  ihave Hb := (cr_slot c .l) $$ Hb
  iapply (hop2 wb hb K c .l (dev24 c) (sem_ls 2 _ rfl _) (sem_lr 2 _ rfl _) l) $$ [Hl Hb HO TS' TV']
  · iclose
  iintro ⟨Hs', HO⟩
  iapply (get_slot_r c 0) $$ Hr'; iintro Hr'
  iapply (step_ret c)
  iapply Hk
  iclose

theorem part14 (c : Dev nD) (v2 : BitVec 32) (v34 : IVec S1024x1 32) (v175 : FVec F S1024x1 .f32) (v178 : FVec F S1024x512 .bf16) (v424 : BitVec 32) (v426 : FVec F S4x512x1024 .bf16)
    (v429 : IVec S1024x1 32) (o : Vec F S1024x1024 .f32) {Q : BitVec 32 → sProp 𝕄} :
    outPts c o ⊢ iprop((outPts c (k0_pay24 v34 v175 v178 v424 v426 v429 o) -∗ Q (Scalar.remsi (Scalar.addi v2 2#32) 8#32))
        -∗ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v34 v175 v178 v424 v426 v429) Q) := by
  rw [k0_part14_eq_skeleton]; unfold k0_part14_skel
  iintro Ho Hk
  iapply (step_get c zero2) $$ Ho; iintro Ho
  iapply (step_get c zero2) $$ Ho; iintro Ho
  iapply (step_put c zero2) $$ Ho; iintro Ho
  iapply (step_ret c)
  iapply Hk
  iexact Ho

theorem part15 (c : Dev nD) (v34 : IVec S1024x1 32) (v175 : FVec F S1024x1 .f32) (v178 : FVec F S1024x512 .bf16) (v475 : BitVec 32) (o : Vec F S1024x1024 .f32) (w : Vec F S4x512x1024 .bf16)
    {Q : (Σ' (_ : FVec F S1024x2048 .bf16) (_ : FVec F S2048x1024 .bf16), FVec F S1024x1024 .f32) → sProp 𝕄} :
    iprop(outPts c o ∗ bufPts c .l (slotS 0) fullShare.right (spread w))
      ⊢ iprop(((outPts c o ∗ bufPts c .l (slotS 0) fullShare.right (spread w)) -∗ Q ⟨k0_pay25 v34 v175 v178 v475, k0_pay26 (up4 w), k0_pay27 o⟩)
        -∗ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v34 v175 v178 v475) Q) := by
  rw [k0_part15_eq_skeleton]; unfold k0_part15_skel
  iintro ⟨Ho, Hl⟩ Hk
  iapply (get_slot_l c 0) $$ Hl; iintro Hl
  iapply (step_get c zero2) $$ Ho; iintro Ho
  iapply (step_ret c)
  iapply Hk
  iclose

/-- What the landing of the third hop brings. -/
theorem rv_third (c : Dev nD) (s : Side) : payloadK wb hb c (.rv s 2) 0 0 = iprop(bufPts c s (slotS 1) fullShare (spread (wb (org s 3 c))) ∗ reached ER (kcell (prv s c, .cr s)) 1) := rfl
theorem cr_later (c : Dev nD) (s : Side) : crPay (F := F) c s 1 = anyBuf (F := F) (nxt s c) s (halfS s 0) := rfl

/-- The rest of a slot, besides the half that a last hop carries. -/
noncomputable def restB (c : Dev nD) (s : Side) : sProp 𝕄 := iprop(∃ f, bufPts (F := F) c s (slotS 0 \ halfS s 0) fullShare f)
theorem half_cut (c : Dev nD) (s : Side) : anyBuf (F := F) c s (slotS 0) ⊢ iprop(anyBuf (F := F) c s (halfS s 0) ∗ restB (F := F) c s) := by
  unfold anyBuf restB
  iintro ⟨%f, H⟩
  icases (buf_cut c s (half_sub s 0) fullShare f).1 $$ H with ⟨H, H'⟩
  isplitl [H]
  · iexists f; iexact H
  iexists f; iexact H'

theorem part16 (K : Dev nD × Kd → ℕ) (c : Dev nD) (l : List Due) (hl : below 6 (dCr c .r 1 :: l) = true) (v5 v7 : BitVec 32) (v518 : FVec F S1024x2048 .bf16) (v519 : FVec F S2048x1024 .bf16)
    (v521 : FVec F S1024x1024 .f32) (o : Vec F S1024x1024 .f32) {Q : PUnit → sProp 𝕄} :
    iprop(Rec wb hb K ∗ Owes c (dCr c .r 1 :: l) ∗ outPts c o ∗ cS c .r 2 ∗ at' c (.sn .r 2) 0 ∗ cV c .r 2 ∗ at' c (.rv .r 2) 0
        ∗ bufPts c .r (slotS 0) fullShare.right (spread (wb (org .r 2 c))) ∗ tC c .r 1)
      ⊢ iprop(((Owes c l ∗ outPts c (k0_pay28 v518 v519 v521) ∗ at' c (.sn .r 2) 1 ∗ at' c (.rv .r 2) 1 ∗ bufPts c .r (slotS 1) fullShare (spread (wb (org .r 3 c)))
            ∗ restB (F := F) c .r) -∗ Q PUnit.unit)
        -∗ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v5 v7 v518 v519 v521) Q) := by
  rw [k0_part16_eq_skeleton]; unfold k0_part16_skel
  iintro ⟨#HR, HO, Ho, Cs, As, Cv, Av, Hr', Tr⟩ Hk
  iapply (step_get c zero2) $$ Ho; iintro Ho
  iapply (step_put c zero2) $$ Ho; iintro Ho
  iapplyF (wait_slot_r wb hb K c (.sn .r 2) (sem_rs 2 _ rfl _) rfl (P := bufPts c .r (slotS 0) fullShare.left (spread (wb (org .r 2 c)))) rfl _ (below_le (by decide) hl) rfl); iintro ⟨HO, As, Hr⟩
  iapplyF (wait_slot_r wb hb K c (.rv .r 2) (sem_rr 2 _ rfl _) rfl (rv_third wb hb c .r) _ hl rfl); iintro ⟨HO, Av, ⟨Hv, #Hc⟩⟩
  ihave Hr := (any_join c .r (slotS 0) _) $$ [Hr Hr']
  · iclose
  ihave Hr := (half_cut c .r) $$ Hr
  icases Hr with ⟨Hr, Hr'⟩
  iapplyF (sig_cr wb hb K c .r 1 (halfS .r 0) (fun c => cr_later c .r) (dev25 c) sem_cr_r rfl _); iintro HO
  iapply (step_ret c)
  iapply Hk
  iclose

theorem part17 (K : Dev nD × Kd → ℕ) (c : Dev nD) (l : List Due) (hl : below 6 (dCr c .l 1 :: l) = true) (hl' : below 7 l = true) (v5 v7 : BitVec 32) {Q : PUnit → sProp 𝕄} :
    iprop(Rec wb hb K ∗ Owes c (dCr c .l 1 :: l) ∗ cS c .l 2 ∗ at' c (.sn .l 2) 0 ∗ cV c .l 2 ∗ at' c (.rv .l 2) 0
        ∗ bufPts c .l (slotS 0) fullShare.right (spread (wb (org .l 2 c))) ∗ tC c .l 1 ∗ cC c .r 1 ∗ at' c (.cr .r) 1)
      ⊢ iprop(((Owes c l ∗ at' c (.sn .l 2) 1 ∗ at' c (.rv .l 2) 1 ∗ bufPts c .l (slotS 1) fullShare (spread (wb (org .l 3 c))) ∗ restB (F := F) c .l
            ∗ at' c (.cr .r) 2 ∗ anyBuf (F := F) (nxt .r c) .r (halfS .r 0)) -∗ Q PUnit.unit)
        -∗ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v5 v7) Q) := by
  rw [k0_part17_eq_skeleton]; unfold k0_part17_skel
  iintro ⟨#HR, HO, Cs, As, Cv, Av, Hl', Tl, Cc, Ac⟩ Hk
  iapplyF (wait_slot_l wb hb K c (.sn .l 2) (sem_ls 2 _ rfl _) rfl (P := bufPts c .l (slotS 0) fullShare.left (spread (wb (org .l 2 c)))) rfl _ (below_le (by decide) hl) rfl); iintro ⟨HO, As, Hl⟩
  iapplyF (wait_slot_l wb hb K c (.rv .l 2) (sem_lr 2 _ rfl _) rfl (rv_third wb hb c .l) _ hl rfl); iintro ⟨HO, Av, ⟨Hv, #Hc⟩⟩
  ihave Hl := (any_join c .l (slotS 0) _) $$ [Hl Hl']
  · iclose
  ihave Hl := (half_cut c .l) $$ Hl
  icases Hl with ⟨Hl, Hl'⟩
  iapplyF (sig_cr wb hb K c .l 1 (halfS .l 0) (fun c => cr_later c .l) (dev26 c) sem_cr_l rfl _); iintro HO
  iapplyF (wait_cr wb hb K c .r 1 (by decide) sem_cr_r rfl l hl'); iintro ⟨HO, Ac, -, Hb⟩
  ihave Hb := (cr_half c .r) $$ Hb
  iapply (step_ret c)
  iapply Hk
  iclose

theorem part18 (K : Dev nD × Kd → ℕ) (c : Dev nD) (l : List Due) (hl : below 7 (dHop c .l 3 :: l) = true) (v2 v5 : BitVec 32) (v34 : IVec S1024x1 32) (v175 : FVec F S1024x1 .f32)
    (v178 : FVec F S1024x512 .bf16) {Q : (Σ' (_ : BitVec 32) (_ : FVec F S4x512x1024 .bf16) (_ : FVec F S1024x512 .bf16), FVec F S1024x1 .f32) → sProp 𝕄} :
    iprop(Rec wb hb K ∗ Owes c (dHop c .r 3 :: dHop c .l 3 :: l) ∗ bufPts c .r (slotS 1) fullShare (spread (wb (org .r 3 c))) ∗ anyBuf (F := F) (nxt .r c) .r (halfS .r 0) ∗ tS c .r 3 ∗ tV c .r 3
        ∗ cC c .l 1 ∗ at' c (.cr .l) 1 ∗ bufPts c .l (slotS 1) fullShare (spread (wb (org .l 3 c))) ∗ tS c .l 3 ∗ tV c .l 3)
      ⊢ iprop(((Owes c l ∗ cS c .r 3 ∗ bufPts c .r (slotS 1) fullShare.right (spread (wb (org .r 3 c))) ∗ bufPts c .r (slotS 1 \ halfS .r 1) fullShare.left (spread (wb (org .r 3 c)))
            ∗ at' c (.cr .l) 2 ∗ cS c .l 3 ∗ bufPts c .l (slotS 1) fullShare.right (spread (wb (org .l 3 c))) ∗ bufPts c .l (slotS 1 \ halfS .l 1) fullShare.left (spread (wb (org .l 3 c))))
          -∗ Q ⟨Scalar.remsi (Scalar.addi v2 5#32) 8#32, k0_pay29 (up4 (wb (org .r 3 c))), k0_pay30 v2 v34 v175 v178, k0_pay31 v2 v34 v175⟩)
        -∗ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v5 v34 v175 v178) Q) := by
  rw [k0_part18_eq_skeleton]; unfold k0_part18_skel
  iintro ⟨#HR, HO, Hr, Hb, TS, TV, Cc, Ac, Hl, TS', TV'⟩ Hk
  icases (buf_share c .r (slotS 1) fullShare _).1 $$ Hr with ⟨Hr, Hr'⟩
  icases (buf_cut c .r (half_sub .r 1) fullShare.left _).1 $$ Hr with ⟨Hr, Hr''⟩
  icases (buf_share c .l (slotS 1) fullShare _).1 $$ Hl with ⟨Hl, Hl'⟩
  icases (buf_cut c .l (half_sub .l 1) fullShare.left _).1 $$ Hl with ⟨Hl, Hl''⟩
  iapply (hop3 wb hb K c .r (dev27 c) (sem_rs 3 _ rfl _) (sem_rr 3 _ rfl _) _) $$ [Hr Hb HO TS TV]
  · iclose
  iintro ⟨Hs, HO⟩
  iapplyF (wait_cr wb hb K c .l 1 (by decide) sem_cr_l rfl _ hl); iintro ⟨HO, Ac, -, Hb⟩
  ihave Hb := (cr_half c .l) $$ Hb
  iapply (hop3 wb hb K c .l (dev28 c) (sem_ls 3 _ rfl _) (sem_lr 3 _ rfl _) l) $$ [Hl Hb HO TS' TV']
  · iclose
  iintro ⟨Hs', HO⟩
  iapply (get_slot_r c 1) $$ Hr'; iintro Hr'
  iapply (step_ret c)
  iapply Hk
  iclose

theorem part19 (c : Dev nD) (v2 : BitVec 32) (v34 : IVec S1024x1 32) (v175 : FVec F S1024x1 .f32) (v178 : FVec F S1024x512 .bf16) (v578 : BitVec 32) (v580 : FVec F S4x512x1024 .bf16)
    (v590 : FVec F S1024x512 .bf16) (v597 : FVec F S1024x1 .f32) (o : Vec F S1024x1024 .f32) (w : Vec F S4x512x1024 .bf16)
    {Q : (Σ' (_ : BitVec 32) (_ : FVec F S4x512x1024 .bf16), FVec F S1024x1 .bf16) → sProp 𝕄} :
    iprop(outPts c o ∗ bufPts c .l (slotS 1) fullShare.right (spread w))
      ⊢ iprop(((outPts c (k0_pay32 v34 v175 v178 v578 v580 v590 v597 o) ∗ bufPts c .l (slotS 1) fullShare.right (spread w))
          -∗ Q ⟨Scalar.remsi (Scalar.addi v2 3#32) 8#32, k0_pay33 (up4 w), k0_pay34 v2 v34 v175⟩)
        -∗ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v34 v175 v178 v578 v580 v590 v597) Q) := by
  rw [k0_part19_eq_skeleton]; unfold k0_part19_skel
  iintro ⟨Ho, Hl⟩ Hk
  iapply (step_get c zero2) $$ Ho; iintro Ho
  iapply (step_get c zero2) $$ Ho; iintro Ho
  iapply (step_put c zero2) $$ Ho; iintro Ho
  iapply (get_slot_l c 1) $$ Hl; iintro Hl
  iapply (step_ret c)
  iapply Hk
  iclose

theorem part20 (c : Dev nD) (v34 : IVec S1024x1 32) (v175 : FVec F S1024x1 .f32) (v178 : FVec F S1024x512 .bf16) (v629 : BitVec 32) (v631 : FVec F S4x512x1024 .bf16)
    (v639 : FVec F S1024x1 .bf16) (o : Vec F S1024x1024 .f32) {Q : PUnit → sProp 𝕄} :
    outPts c o ⊢ iprop((outPts c (k0_pay35 v34 v175 v178 v629 v631 v639 o) -∗ Q PUnit.unit)
        -∗ run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v34 v175 v178 v629 v631 v639) Q) := by
  rw [k0_part20_eq_skeleton]; unfold k0_part20_skel
  iintro Ho Hk
  iapply (step_get c zero2) $$ Ho; iintro Ho
  iapply (step_get c zero2) $$ Ho; iintro Ho
  iapply (step_put c zero2) $$ Ho; iintro Ho
  iapply (step_ret c)
  iapply Hk
  iexact Ho

theorem part21 (K : Dev nD × Kd → ℕ) (c : Dev nD) (l : List Due) (hl : below 8 l = true) (v5 v7 : BitVec 32) {Q : PUnit → sProp 𝕄} :
    iprop(Rec wb hb K ∗ Owes c l ∗ cS c .r 3 ∗ at' c (.sn .r 3) 0 ∗ cV c .r 3 ∗ at' c (.rv .r 3) 0 ∗ cS c .l 3 ∗ at' c (.sn .l 3) 0)
      ⊢ iprop(((Owes c l ∗ at' c (.sn .r 3) 1 ∗ bufPts c .r (halfS .r 1) fullShare.left (spread (wb (org .r 3 c)))
            ∗ at' c (.rv .r 3) 1 ∗ bufPts c .r (halfS .r 0) fullShare (spread (wb (org .r 4 c)))
            ∗ at' c (.sn .l 3) 1 ∗ bufPts c .l (halfS .l 1) fullShare.left (spread (wb (org .l 3 c)))) -∗ Q PUnit.unit)
        -∗ run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v5 v7) Q) := by
  rw [k0_part21_eq_skeleton]; unfold k0_part21_skel
  iintro ⟨#HR, HO, Cs, As, Cv, Av, Cl, Al⟩ Hk
  iapplyF (wait_half_r wb hb K c (.sn .r 3) (sem_rs 3 _ rfl _) rfl (P := bufPts c .r (halfS .r 1) fullShare.left (spread (wb (org .r 3 c)))) rfl l (below_le (by decide) hl) rfl); iintro ⟨HO, As, Hs⟩
  iapplyF (wait_half_r wb hb K c (.rv .r 3) (sem_rr 3 _ rfl _) rfl (P := bufPts c .r (halfS .r 0) fullShare (spread (wb (org .r 4 c)))) rfl l hl rfl); iintro ⟨HO, Av, Hv⟩
  iapplyF (wait_half_l wb hb K c (.sn .l 3) (sem_ls 3 _ rfl _) rfl (P := bufPts c .l (halfS .l 1) fullShare.left (spread (wb (org .l 3 c)))) rfl l (below_le (by decide) hl) rfl); iintro ⟨HO, Al, Hl⟩
  iapply (step_ret c)
  iapply Hk
  iclose

theorem part22 (K : Dev nD × Kd → ℕ) (c : Dev nD) (l : List Due) (hl : below 8 l = true) (v2 : BitVec 32) (v34 : IVec S1024x1 32) (v175 : FVec F S1024x1 .f32) (v178 : FVec F S1024x512 .bf16)
    (o : Vec F S1024x1024 .f32) {Q : BitVec 32 → sProp 𝕄} :
    iprop(Rec wb hb K ∗ Owes c l ∗ outPts c o ∗ cV c .l 3 ∗ at' c (.rv .l 3) 0 ∗ bufPts c .r (halfS .r 0) fullShare (spread (wb (org .r 4 c))))
      ⊢ iprop(((Owes c l ∗ outPts c (k0_pay36 v2 v34 v175 v178 (up2 0 inb_S2x4x512x1024_S1x2x512x1024_0_0_0_0 (wb (org .r 4 c))) o) ∗ at' c (.rv .l 3) 1
            ∗ bufPts c .l (halfS .l 0) fullShare (spread (wb (org .l 4 c))) ∗ bufPts c .r (halfS .r 0) fullShare (spread (wb (org .r 4 c)))) -∗ Q (Scalar.remsi (Scalar.addi v2 4#32) 8#32))
        -∗ run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v34 v175 v178) Q) := by
  rw [k0_part22_eq_skeleton]; unfold k0_part22_skel
  iintro ⟨#HR, HO, Ho, Cl, Al, Hr⟩ Hk
  iapplyF (wait_half_l wb hb K c (.rv .l 3) (sem_lr 3 _ rfl _) rfl (P := bufPts c .l (halfS .l 0) fullShare (spread (wb (org .l 4 c)))) rfl l hl rfl); iintro ⟨HO, Al, Hl⟩
  iapply (get_half_r c) $$ Hr; iintro Hr
  iapply (step_get c zero2) $$ Ho; iintro Ho
  iapply (step_get c zero2) $$ Ho; iintro Ho
  iapply (step_put c zero2) $$ Ho; iintro Ho
  iapply (step_ret c)
  iapply Hk
  iclose

end Cert.KernelIdeal.Talk
-- ==== Proof.Body.lean ====
/-
  The whole body, on any device.
-/
module

public import proofs.«01_k».proof.Proof.Parts4
public import proofs.«01_k».proof.Proof.Parts5

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

/-! ## The cells of a device, listed -/

/-- Four hops' worth. -/
noncomputable abbrev four (Φ : Fin 4 → sProp 𝕄) : sProp 𝕄 := iprop(Φ 0 ∗ Φ 1 ∗ Φ 2 ∗ Φ 3)

theorem bigSep_four (Φ : Fin 4 → sProp 𝕄) : bigSep Finset.univ Φ = four Φ := by
  rw [show (Finset.univ : Finset (Fin 4)) = {0, 1, 2, 3} from by decide, bigSep_insert (by decide), bigSep_insert (by decide), bigSep_insert (by decide), bigSep_singleton]
  rfl
theorem bigSep_side (Φ : Side → sProp 𝕄) : bigSep Finset.univ Φ = iprop(Φ .r ∗ Φ .l) := by
  rw [show (Finset.univ : Finset Side) = {.r, .l} from rfl, bigSep_insert (by decide), bigSep_singleton]
  rfl

/-- The kinds, sorted. -/
noncomputable def sorted : Kd ≃ Unit ⊕ Fin 8 ⊕ Fin 8 ⊕ (Side × Fin 4) ⊕ (Side × Fin 4) ⊕ Side where
  toFun
    | .bar => .inl ()
    | .hs p => .inr (.inl p)
    | .hr p => .inr (.inr (.inl p))
    | .sn s h => .inr (.inr (.inr (.inl (s, h))))
    | .rv s h => .inr (.inr (.inr (.inr (.inl (s, h)))))
    | .cr s => .inr (.inr (.inr (.inr (.inr s))))
  invFun
    | .inl _ => .bar
    | .inr (.inl p) => .hs p
    | .inr (.inr (.inl p)) => .hr p
    | .inr (.inr (.inr (.inl x))) => .sn x.1 x.2
    | .inr (.inr (.inr (.inr (.inl x)))) => .rv x.1 x.2
    | .inr (.inr (.inr (.inr (.inr s)))) => .cr s
  left_inv k := by cases k <;> rfl
  right_inv x := by rcases x with _ | _ | _ | _ | _ | _ <;> rfl

theorem bigSep_kd (Φ : Kd → sProp 𝕄) : bigSep Finset.univ Φ = iprop(Φ .bar ∗ bigSep Finset.univ (fun p : Dev nD => Φ (.hs p)) ∗ bigSep Finset.univ (fun p : Dev nD => Φ (.hr p))
    ∗ (four (fun h => Φ (.sn .r h)) ∗ four (fun h => Φ (.sn .l h))) ∗ (four (fun h => Φ (.rv .r h)) ∗ four (fun h => Φ (.rv .l h))) ∗ Φ (.cr .r) ∗ Φ (.cr .l)) := by
  rw [bigSep_univ_equiv sorted.symm Φ, bigSep_univ_sum, bigSep_univ_sum, bigSep_univ_sum, bigSep_univ_sum, bigSep_univ_sum, bigSep_univ_prod, bigSep_univ_prod, bigSep_side, bigSep_side, bigSep_side,
    bigSep_four, bigSep_four, bigSep_four, bigSep_four]
  rw [show (Finset.univ : Finset Unit) = {()} from rfl, bigSep_singleton]
  rfl

/-! ## The result -/

/-- What a device's output holds at the end: the products of its tokens with its own experts and, hop by hop, with those that pass by. -/
noncomputable def outAt (wb : Dev nD → Vec F S4x512x1024 .bf16) (hb : Vec F S8x32 .f32) (c : Dev nD) (x : Vec F S1024x512 .f32) (r : Vec F S1024x1 .i32) : Vec F S1024x1024 .f32 :=
  let v34 := k0_pay1 r
  let v40 := k0_pay2 (F := F) r
  let v171 := k0_pay6 v40 (k0_pay5 (wd c) hb)
  let z : F .f32 := Scalar.ofBits .f32 0x00000000#32
  let v175 := k0_pay7 v40 v171 z
  let v178 := k0_pay8 x
  let o1 := k0_pay13 v34 v175 v178 (wb c) (k0_pay10 (wd c) v34 v40 v171 z x) (k0_pay11 (wd c) v34 v40 v171 z x) (k0_pay12 (wd c) v34 v40 v171 z x)
    (Scalar.addi (Scalar.muli (wd c) 4#32) 3#32) k0_pay9
  let o2 := k0_pay16 (k0_pay14 (up4 (wb (org .r 1 c)))) (k0_pay15 (wd c) v34 v175 v178) o1
  let o3 := k0_pay21 v34 v175 v178 (k0_pay17 (up4 (wb (org .l 1 c)))) (k0_pay18 (wd c) v34 v175 v178) (k0_pay19 (wd c) v34 v175 v178) (k0_pay20 (wd c) v34 v175 v178)
    (Scalar.muli (Scalar.remsi (Scalar.addi (wd c) 1#32) 8#32) 4#32) o2
  let o4 := k0_pay24 v34 v175 v178 (Scalar.remsi (Scalar.addi (wd c) 6#32) 8#32) (k0_pay22 (up4 (wb (org .r 2 c)))) (k0_pay23 (wd c)) o3
  let o5 := k0_pay28 (k0_pay25 v34 v175 v178 (Scalar.remsi (Scalar.addi (wd c) 2#32) 8#32)) (k0_pay26 (up4 (wb (org .l 2 c)))) (k0_pay27 o4)
  let o6 := k0_pay32 v34 v175 v178 (Scalar.remsi (Scalar.addi (wd c) 5#32) 8#32) (k0_pay29 (up4 (wb (org .r 3 c)))) (k0_pay30 (wd c) v34 v175 v178) (k0_pay31 (wd c) v34 v175) o5
  let o7 := k0_pay35 v34 v175 v178 (Scalar.remsi (Scalar.addi (wd c) 3#32) 8#32) (k0_pay33 (up4 (wb (org .l 3 c)))) (k0_pay34 (wd c) v34 v175) o6
  let o8 := k0_pay36 (wd c) v34 v175 v178 (up2 0 inb_S2x4x512x1024_S1x2x512x1024_0_0_0_0 (wb (org .r 4 c))) o7
  k0_pay37 v34 v175 v178 (Scalar.remsi (Scalar.addi (wd c) 4#32) 8#32) (up2 2 inb_S2x4x512x1024_S1x2x512x1024_0_2_0_0 (wb (org .l 4 c))) o8

/-! ## From start to end -/

/-- The round a device's cell of each kind ends in. -/
def endR (c : Dev nD) : Kd → ℕ
  | .bar => 1
  | .hs p => if p = c then 0 else 1
  | .hr p => if p = c then 0 else 1
  | .sn _ _ => 1
  | .rv _ _ => 1
  | .cr _ => 2

/-- What a device starts with, its staged windows apart. -/
noncomputable def Start (c : Dev nD) : sProp 𝕄 :=
  iprop((∃ f, hisPts (F := F) c Finset.univ fullShare f) ∗ (∃ f, ewPts (F := F) c fullShare f) ∗ anyBuf (F := F) c .r Finset.univ ∗ anyBuf (F := F) c .l Finset.univ
    ∗ bigSep Finset.univ (BarTok (F := F) c) ∗ bigSep Finset.univ (RowTok (F := F) c)
    ∗ four (tS (F := F) c .r) ∗ four (tV (F := F) c .r) ∗ four (tS (F := F) c .l) ∗ four (tV (F := F) c .l) ∗ tC c .r 0 ∗ tC c .r 1 ∗ tC c .l 0 ∗ tC c .l 1
    ∗ cred (tallyAt (kcell (c, .bar)) 0 7) ∗ bigSep Finset.univ (RowDue (F := F) c) ∗ four (cV (F := F) c .r) ∗ four (cV (F := F) c .l) ∗ cC c .r 0 ∗ cC c .r 1 ∗ cC c .l 0 ∗ cC c .l 1
    ∗ bigSep Finset.univ (fun k => at' (F := F) c k 0))

/-- What it ends with. -/
noncomputable def End (c : Dev nD) : sProp 𝕄 :=
  iprop((∃ f, hisPts (F := F) c Finset.univ fullShare f) ∗ (∃ f, ewPts (F := F) c fullShare f) ∗ anyBuf (F := F) c .r Finset.univ ∗ anyBuf (F := F) c .l Finset.univ
    ∗ bigSep Finset.univ (fun k => (semVal (kcell (c, k)) 0 : sProp 𝕄)))

theorem step_bind (c : Dev nD) {β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := by
  unfold run
  rw [wp_bind]

/-- The end of a program may still change the invariants. -/
theorem run_pure (c : Dev nD) (x : α) {Q : α → sProp 𝕄} : iprop(|={Set.univ}=> Q x) ⊢ run c (Pure.pure x : Prog (TpuEff nD τ sig (Elt F) Λ₀ .tc) α) Q := Entails.refl _

theorem endR_late (c : Dev nD) (k : Kd) : ∀ r' ≥ endR c k, dutiesK c k r' = ∅ := by
  intro r' h
  match k, r', h with
  | .bar, n + 1, _ => rfl
  | .hs p, 0, h => exact if_pos (by by_contra hp; simp [endR, hp] at h)
  | .hs p, n + 1, _ => rfl
  | .hr p, 0, h => exact if_pos (by by_contra hp; simp [endR, hp] at h)
  | .hr p, n + 1, _ => rfl
  | .sn _ _, n + 1, _ => rfl
  | .rv _ _, n + 1, _ => rfl
  | .cr _, n + 2, _ => rfl

theorem close_all (K : Dev nD × Kd → ℕ) (c : Dev nD) : iprop(Rec wb hb K ∗ bigSep Finset.univ (fun k => at' (F := F) c k (endR c k)))
    ⊢ |={Set.univ}=> bigSep Finset.univ (fun k => (semVal (kcell (c, k)) 0 : sProp 𝕄)) := by
  refine BIBase.Entails.trans ?_ (bigSep_fupd Finset.univ _)
  exact bigSep_with_persistent fun k _ => step_close wb hb K c k _ (endR_late c k)

/-- The pieces of a landing buffer at the end. -/
theorem rejoin (c : Dev nD) (s : Side) (f h : Vec F S2x4x512x1024 .bf16) : iprop(bufPts c s (slotS 1) fullShare.right f ∗ bufPts c s (slotS 1 \ halfS s 1) fullShare.left f
      ∗ bufPts c s (halfS s 1) fullShare.left f ∗ bufPts c s (halfS s 0) fullShare h ∗ restB (F := F) c s) ⊢ anyBuf (F := F) c s Finset.univ := by
  unfold restB anyBuf
  iintro ⟨Ha, Hb, Hc, Hd, %g, He⟩
  ihave Hl := (buf_cut c s (half_sub s 1) fullShare.left f).2 $$ [Hc Hb]
  · iclose
  ihave H1 := (buf_share c s (slotS 1) fullShare f).2 $$ [Hl Ha]
  · iclose
  icases (buf_join c s (half_sub s 0) fullShare h g) $$ [Hd He] with ⟨%h', H0⟩
  · iclose
  irwh [← slot_compl] at H0
  iapply (buf_join c s (Finset.subset_univ (slotS 1)) fullShare f h')
  iclose

theorem Start_eq (c : Dev nD) : Start (F := F) c =
  iprop((∃ f, hisPts (F := F) c Finset.univ fullShare f) ∗ (∃ f, ewPts (F := F) c fullShare f) ∗ anyBuf (F := F) c .r Finset.univ ∗ anyBuf (F := F) c .l Finset.univ
    ∗ bigSep Finset.univ (BarTok (F := F) c) ∗ bigSep Finset.univ (RowTok (F := F) c)
    ∗ four (tS (F := F) c .r) ∗ four (tV (F := F) c .r) ∗ four (tS (F := F) c .l) ∗ four (tV (F := F) c .l) ∗ tC c .r 0 ∗ tC c .r 1 ∗ tC c .l 0 ∗ tC c .l 1
    ∗ cred (tallyAt (kcell (c, .bar)) 0 7) ∗ bigSep Finset.univ (RowDue (F := F) c) ∗ four (cV (F := F) c .r) ∗ four (cV (F := F) c .l) ∗ cC c .r 0 ∗ cC c .r 1 ∗ cC c .l 0 ∗ cC c .l 1
    ∗ bigSep Finset.univ (fun k => at' (F := F) c k 0)) := rfl
theorem End_eq (c : Dev nD) : End (F := F) c =
  iprop((∃ f, hisPts (F := F) c Finset.univ fullShare f) ∗ (∃ f, ewPts (F := F) c fullShare f) ∗ anyBuf (F := F) c .r Finset.univ ∗ anyBuf (F := F) c .l Finset.univ
    ∗ bigSep Finset.univ (fun k => (semVal (kcell (c, k)) 0 : sProp 𝕄))) := rfl

theorem dues_eq (c : Dev nD) : dues c = dBar c 0 :: dBar c 1 :: dBar c 2 :: dBar c 3 :: dBar c 4 :: dBar c 5 :: dBar c 6 :: dBar c 7 :: dHop c .r 0 :: dHop c .l 0
    :: dRow c 0 :: dRow c 1 :: dRow c 2 :: dRow c 3 :: dRow c 4 :: dRow c 5 :: dRow c 6 :: dRow c 7 :: dHop c .r 1 :: dHop c .l 1 :: dCr c .r 0 :: dCr c .l 0
    :: dHop c .r 2 :: dHop c .l 2 :: dCr c .r 1 :: dCr c .l 1 :: dHop c .r 3 :: dHop c .l 3 :: [] := rfl

theorem below_two (c : Dev nD) : below 1 (dHop c .r 0 :: dHop c .l 0
    :: dRow c 0 :: dRow c 1 :: dRow c 2 :: dRow c 3 :: dRow c 4 :: dRow c 5 :: dRow c 6 :: dRow c 7 :: dHop c .r 1 :: dHop c .l 1 :: dCr c .r 0 :: dCr c .l 0
    :: dHop c .r 2 :: dHop c .l 2 :: dCr c .r 1 :: dCr c .l 1 :: dHop c .r 3 :: dHop c .l 3 :: []) = true := rfl
theorem below_dues3 (c : Dev nD) : below 3 (dHop c .r 1 :: dHop c .l 1 :: dCr c .r 0 :: dCr c .l 0
    :: dHop c .r 2 :: dHop c .l 2 :: dCr c .r 1 :: dCr c .l 1 :: dHop c .r 3 :: dHop c .l 3 :: []) = true := rfl
theorem below_cr (c : Dev nD) : below 4 (dCr c .r 0 :: dCr c .l 0
    :: dHop c .r 2 :: dHop c .l 2 :: dCr c .r 1 :: dCr c .l 1 :: dHop c .r 3 :: dHop c .l 3 :: []) = true := rfl
theorem below_hop (c : Dev nD) : below 5 (dHop c .r 2 :: dHop c .l 2 :: dCr c .r 1 :: dCr c .l 1 :: dHop c .r 3 :: dHop c .l 3 :: []) = true := rfl
theorem below_late (c : Dev nD) : below 6 (dCr c .r 1 :: dCr c .l 1 :: dHop c .r 3 :: dHop c .l 3 :: []) = true := rfl
theorem below_last (c : Dev nD) : below 7 (dHop c .r 3 :: dHop c .l 3 :: []) = true := rfl

/-- The positions at the end, put together. -/
theorem ends (c : Dev nD) : iprop(at' (F := F) c .bar 1 ∗ bigSep Finset.univ (fun p => RowEnd (F := F) c p) ∗ (four (fun h => at' (F := F) c (.sn .r h) 1) ∗ four (fun h => at' (F := F) c (.sn .l h) 1))
      ∗ (four (fun h => at' (F := F) c (.rv .r h) 1) ∗ four (fun h => at' (F := F) c (.rv .l h) 1)) ∗ at' (F := F) c (.cr .r) 2 ∗ at' (F := F) c (.cr .l) 2)
    ⊢ bigSep Finset.univ (fun k => at' (F := F) c k (endR c k)) := by
  rw [bigSep_kd, show (bigSep Finset.univ fun p => RowEnd (F := F) c p) = iprop(bigSep Finset.univ (fun p : Dev nD => at' (F := F) c (.hs p) (endR c (.hs p)))
    ∗ bigSep Finset.univ (fun p : Dev nD => at' (F := F) c (.hr p) (endR c (.hr p)))) from bigSep_sep' _ _ _]
  iintro ⟨A, ⟨B, C⟩, D, E, G, H⟩
  isplitl [A]
  · iexact A
  isplitl [B]
  · iexact B
  isplitl [C]
  · iexact C
  isplitl [D]
  · iexact D
  isplitl [E]
  · iexact E
  isplitl [G]
  · iexact G
  iexact H

theorem ew_back (c : Dev nD) (f : Vec F S4x512x1024 .bf16) : iprop(ewPts c fullShare.left f ∗ ewPts c (ewShare .r) f ∗ ewPts c (ewShare .l) f) ⊢ ewPts c fullShare f := by
  unfold ewPts
  iintro ⟨H, H', H''⟩
  iapply (pointsTo_share (PosShare.mem_left_op_right fullShare)).2
  isplitl [H]; · iexact H
  iapply (pointsTo_share (PosShare.mem_left_op_right fullShare.right)).2
  isplitl [H']; · iexact H'
  iexact H''

theorem rows_wait (c : Dev nD) : (bigSep Finset.univ fun p : Dev nD => iprop((at' (F := F) c (.hs p) 0 ∗ at' (F := F) c (.hr p) 0) ∗ RowDue (F := F) c p)) = bigSep Finset.univ fun p => RowWait (F := F) c p := rfl

attribute [local irreducible] Start End Rec Owes amountK kcell BarOut RowOut RowCred RowWait RowEnd anyBuf restB RowDue RowAt BarTok RowTok RowDst dBar dRow dHop dCr hisPts ewPts bufPts spread
  k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22

theorem body_run (K : Dev nD × Kd → ℕ) (c : Dev nD) (x : Vec F S1024x512 .f32) (r : Vec F S1024x1 .i32) (e : Vec F S4x512x1024 .f32)
    (hwb : wb c = k0_pay3 e) (R : Dev nD → Vec F S1x32 .f32) (hhb : hb = tbl R) (hR : R c = k0_pay4 r) {Q : PUnit → sProp 𝕄} :
    iprop(Rec wb hb K ∗ Owes c (dues c) ∗ Start (F := F) c ∗ ((c : Thread nD τ).loc cc0_stg0_0 ↦{fullShare} x) ∗ ((c : Thread nD τ).loc cc0_stg1_0 ↦{fullShare} r)
        ∗ ((c : Thread nD τ).loc cc0_stg2_0 ↦{fullShare} e) ∗ (∃ f, outPts c f))
      ⊢ iprop(((Owes c [] ∗ End (F := F) c ∗ ((c : Thread nD τ).loc cc0_stg0_0 ↦{fullShare} x) ∗ ((c : Thread nD τ).loc cc0_stg1_0 ↦{fullShare} r)
          ∗ ((c : Thread nD τ).loc cc0_stg2_0 ↦{fullShare} e) ∗ outPts c (outAt wb hb c x r)) -∗ Q PUnit.unit)
        -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Q) := by
  have hS := Start_eq (F := F) c
  have hE := End_eq (F := F) c
  have hW := rows_wait (F := F) c
  rw [cc0_body_eq_skeleton]
  unfold cc0_body_skel
  rw [k0_part23_eq_skeleton]
  unfold k0_part23_skel
  iintro ⟨#HR, HO, Hst, Hx, Hr, He, Ho⟩ Hk
  irwh [hS] at Hst
  irwh [dues_eq] at HO
  icases Hst with ⟨Hhis, Hew, Hbr, Hbl, Hbt, Hrt, ⟨Tr0, Tr1, Tr2, Tr3⟩, ⟨Vr0, Vr1, Vr2, Vr3⟩, ⟨Tl0, Tl1, Tl2, Tl3⟩, ⟨Vl0, Vl1, Vl2, Vl3⟩, Cr0, Cr1, Cl0, Cl1, Hbc, Hrd,
    ⟨Er0, Er1, Er2, Er3⟩, ⟨El0, El1, El2, El3⟩, Kr0, Kr1, Kl0, Kl1, Hat⟩
  irwh [bigSep_kd] at Hat
  icases Hat with ⟨Ab, Ahs, Ahr, ⟨⟨Sr0, Sr1, Sr2, Sr3⟩, ⟨Sl0, Sl1, Sl2, Sl3⟩⟩, ⟨⟨Rr0, Rr1, Rr2, Rr3⟩, ⟨Rl0, Rl1, Rl2, Rl3⟩⟩, Pr, Pl⟩
  icases (bar_give c) $$ [Hhis Hbr Hbl Hbt] with ⟨Hrow, Hbo⟩
  · iclose
  irwh [bigSep_eight] at Hbo
  icases Hbo with ⟨B0, B1, B2, B3, B4, B5, B6, B7⟩
  iapply (step_bind c)
  iapply (step_bind c)
  iapply (part1 wb hb K c _) $$ [HO B0 B1 B2 B3 B4 B5 B6]
  · iclose
  iintro HO
  iapply (step_bind c)
  iapply (part2 wb hb K c _ (below_two c) r e hwb R hhb hR) $$ [HO B7 Ab Hbc Hr He Hew Hrow Tr0 Vr0]
  · iclose
  iintro ⟨HO, Ab, Hr, He, W1, W2, Hrow, Hdst, Nr0, Nl, Fr0⟩
  icases (row_give hb c) $$ [Hrow Hdst Hrt] with ⟨Hrow, Hro⟩
  · iclose
  irwh [bigSep_eight] at Hro
  icases Hro with ⟨D0, D1, D2, D3, D4, D5, D6, D7⟩
  icases (any_cut (nxt .l c) .l) $$ Nl with ⟨Nl1, Nl0⟩
  iapply (step_bind c)
  iapply (part3 wb hb K c _) $$ [HO W2 Nl1 Tl0 Vl0 D0 D1 D2 D3 D4 D5 D6]
  · iclose
  iintro ⟨HO, Fl0, G⟩
  icombine Ahs Ahr as HA
  irwh [← bigSep_sep'] at HA
  icombine HA Hrd as HW
  irwh [← bigSep_sep'] at HW
  irwh [hW] at HW
  iapply (step_bind c)
  iapply (part4 wb hb K c _ (below_le (by decide : 2 ≤ 3) (below_dues3 c))) $$ [HO D7 Hrow G HW]
  · iclose
  iintro ⟨HO, HE, Hhis⟩
  iapply (step_bind c)
  iapply (part5 c _ _)
  iapply (step_bind c)
  iapply (part6 c _ _ _ _ _ x (wb c)) $$ [Hx Ho W1]
  · iclose
  iintro ⟨Hx, Ho, W1⟩
  iapply (step_bind c)
  iapply (part7 wb hb K c _ (below_dues3 c) _ _ _ _ _ _ _ _ _ _) $$ [HO Ho Fr0 Sr0 Er0 Rr0 Fl0 Sl0]
  · iclose
  iintro ⟨HO, Ho, Sr0, Wr, Rr0, Br1, Sl0, Wl⟩
  iapply (step_bind c)
  iapply (part8 wb hb K c _ (below_dues3 c) _ _) $$ [HO El0 Rl0 Br1 Nr0 Tr1 Vr1]
  · iclose
  iintro ⟨HO, Rl0, Bl1, Fr1, Br1⟩
  iapply (step_bind c)
  iapply (part9 wb hb K c _ _ _ _ _) $$ [HO Bl1 Nl0 Tl1 Vl1 Br1]
  · iclose
  iintro ⟨HO, Fl1, Bl1, Br1⟩
  iapply (step_bind c)
  iapply (part10 c _ _ _ _ _ _ _ (wb (org .l 1 c))) $$ [Ho Bl1]
  · iclose
  iintro ⟨Ho, Bl1⟩
  iapply (step_bind c)
  iapply (part11 wb hb K c _ (below_le (by decide : 0 ≤ 4) (below_cr c)) _ _ _ _ _ _ _ _ _ _) $$ [HO Ho Fr1 Sr1]
  · iclose
  iintro ⟨HO, Ho, Sr1, Br1'⟩
  iapply (step_bind c)
  iapply (part12 wb hb K c _ (below_cr c) (below_hop c) _ _) $$ [HO Er1 Rr1 Br1' Br1 Cr0 Fl1 Sl1 El1 Rl1 Bl1 Cl0 Kr0 Pr]
  · iclose
  iintro ⟨HO, Rr1, Br0, Sl1, Rl1, Bl0, Pr, #Hreach, Nr1⟩
  iapply (step_bind c)
  iapply (part13 wb hb K c _ (below_tail (below_hop c)) _ _ _) $$ [HO Br0 Nr1 Tr2 Vr2 Kl0 Pl Bl0 Tl2 Vl2]
  · iclose
  iintro ⟨HO, Fr2, Br0, Pl, Fl2, Bl0⟩
  iapply (step_bind c)
  iapply (part14 c _ _ _ _ _ _ _ _) $$ Ho
  iintro Ho
  iapply (step_bind c)
  iapply (part15 c _ _ _ _ _ (wb (org .l 2 c))) $$ [Ho Bl0]
  · iclose
  iintro ⟨Ho, Bl0⟩
  iapply (step_bind c)
  iapply (part16 wb hb K c _ (below_late c) _ _ _ _ _ _) $$ [HO Ho Fr2 Sr2 Er2 Rr2 Br0 Cr1]
  · iclose
  iintro ⟨HO, Ho, Sr2, Rr2, Br1, Xr⟩
  iapply (step_bind c)
  iapply (part17 wb hb K c _ (below_tail (below_late c)) (below_last c) _ _) $$ [HO Fl2 Sl2 El2 Rl2 Bl0 Cl1 Kr1 Pr]
  · iclose
  iintro ⟨HO, Sl2, Rl2, Bl1, Xl, Pr, Nr⟩
  iapply (step_bind c)
  iapply (part18 wb hb K c _ (below_tail (below_last c)) _ _ _ _ _) $$ [HO Br1 Nr Tr3 Vr3 Kl1 Pl Bl1 Tl3 Vl3]
  · iclose
  iintro ⟨HO, Fr3, Br1, Yr, Pl, Fl3, Bl1, Yl⟩
  iapply (step_bind c)
  iapply (part19 c _ _ _ _ _ _ _ _ _ (wb (org .l 3 c))) $$ [Ho Bl1]
  · iclose
  iintro ⟨Ho, Bl1⟩
  iapply (step_bind c)
  iapply (part20 c _ _ _ _ _ _ _) $$ Ho
  iintro Ho
  iapply (step_bind c)
  iapply (part21 wb hb K c [] rfl _ _) $$ [HO Fr3 Sr3 Er3 Rr3 Fl3 Sl3]
  · iclose
  iintro ⟨HO, Sr3, Zr, Rr3, Br0, Sl3, Zl⟩
  iapply (step_bind c)
  iapply (part22 wb hb K c [] rfl _ _ _ _ _) $$ [HO Ho El3 Rl3 Br0]
  · iclose
  iintro ⟨HO, Ho, Rl3, Bl0, Br0⟩
  iapply (get_half_l c) $$ Bl0
  iintro Bl0
  iapply (step_get c zero2) $$ Ho
  iintro Ho
  iapply (step_get c zero2) $$ Ho
  iintro Ho
  iapply (step_ret c)
  iapply (step_put c zero2) $$ Ho
  iintro Ho
  ihave Hr' := (rejoin c .r _ _) $$ [Br1 Yr Zr Br0 Xr]
  · iclose
  ihave Hl' := (rejoin c .l _ _) $$ [Bl1 Yl Zl Bl0 Xl]
  · iclose
  ihave Hat := (ends c) $$ [Ab HE Sr0 Sr1 Sr2 Sr3 Sl0 Sl1 Sl2 Sl3 Rr0 Rr1 Rr2 Rr3 Rl0 Rl1 Rl2 Rl3 Pr Pl]
  · iclose
  ihave Hew := (ew_back c (wb c)) $$ [W1 Wr Wl]
  · iclose
  iapply (run_pure c)
  imod (close_all wb hb K c) $$ [Hat] with Hsem
  · iclose
  imodintro
  iapply Hk
  isplitl [HO]
  · iexact HO
  isplitl [Hhis Hew Hr' Hl' Hsem]
  · iapply (Entails.of_eq hE.symm)
    isplitl [Hhis]
    · iexists _; iexact Hhis
    isplitl [Hew]
    · iexists _; iexact Hew
    iclose
  isplitl [Hx]
  · iexact Hx
  isplitl [Hr]
  · iexact Hr
  isplitl [He]
  · iexact He
  iexact Ho

end Cert.KernelIdeal.Talk
-- ==== Proof.Deal.lean ====
/-
  The tokens and the credit that a device starts with, out of what the launch makes for all devices.
-/
module

public import proofs.«01_k».proof.Proof.Body

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (wb : Dev nD → Vec F S4x512x1024 .bf16) (hb : Vec F S8x32 .f32)
variable {α : Type}

/-! ## Tokens -/

/-- A token made for the launch: a device's cell, a round, who pays. -/
noncomputable def tokOf (x : Dev nD × Kd × Fin 2 × Dev nD) : GSem nD τ sig × ℕ × Dev nD := (kcell (x.1, x.2.1), x.2.2.1.val, x.2.2.2)

theorem tokOf_injective : Function.Injective tokOf := by
  rintro ⟨c, k, r, d⟩ ⟨c', k', r', d'⟩ h
  have h1 := kcell_injective (congrArg (fun y : GSem nD τ sig × ℕ × Dev nD => y.1) h)
  have h2 : r = r' := Fin.ext (congrArg (fun y : GSem nD τ sig × ℕ × Dev nD => y.2.1) h)
  have h3 : d = d' := congrArg (fun y : GSem nD τ sig × ℕ × Dev nD => y.2.2) h
  obtain ⟨rfl, rfl⟩ := Prod.mk.inj h1
  rw [h2, h3]

/-- All cells, -/
noncomputable def allCells : Finset (GSem nD τ sig) := Finset.univ.map ⟨kcell, kcell_injective⟩
/-- all tokens. -/
noncomputable def allToks : Finset (GSem nD τ sig × ℕ × Dev nD) := Finset.univ.map ⟨tokOf, tokOf_injective⟩

/-- The tokens of one device's cells. -/
noncomputable def Toks (c : Dev nD) : sProp 𝕄 :=
  bigSep Finset.univ fun k : Kd => bigSep Finset.univ fun r : Fin 2 => bigSep Finset.univ fun d : Dev nD => dutyTok ER (kcell (c, k)) r.val d

/-- Those of them that somebody uses. -/
noncomputable def Used (c : Dev nD) : sProp 𝕄 :=
  iprop(bigSep Finset.univ (fun p : Dev nD => dutyTok ER (kcell (c, .bar)) 0 p) ∗ bigSep Finset.univ (fun p : Dev nD => dutyTok ER (kcell (c, .hs p)) 0 0)
    ∗ bigSep Finset.univ (fun p : Dev nD => dutyTok ER (kcell (c, .hr p)) 0 0)
    ∗ (four (tS (F := F) c .r) ∗ four (tS (F := F) c .l))
    ∗ (four (fun h => dutyTok ER (kcell (c, .rv .r h)) 0 0) ∗ four (fun h => dutyTok ER (kcell (c, .rv .l h)) 0 0))
    ∗ (dutyTok ER (kcell (c, .cr .r)) 0 0 ∗ dutyTok ER (kcell (c, .cr .r)) 1 0) ∗ dutyTok ER (kcell (c, .cr .l)) 0 0 ∗ dutyTok ER (kcell (c, .cr .l)) 1 0)

theorem two_rounds {P : Fin 2 → sProp 𝕄} : bigSep Finset.univ P = iprop(P 0 ∗ P 1) := by
  rw [show (Finset.univ : Finset (Fin 2)) = {0, 1} from by decide, bigSep_insert (by decide), bigSep_singleton]
  rfl
theorem pick {P : Dev nD → sProp 𝕄} (d : Dev nD) : bigSep Finset.univ P ⊢ P d := BI.bigSep_elim (Finset.mem_univ d)
theorem pick0 (P : Fin 2 → Dev nD → sProp 𝕄) : bigSep Finset.univ (fun r => bigSep Finset.univ (P r)) ⊢ P 0 0 := by
  rw [two_rounds]
  iintro ⟨H, -⟩
  iapply (pick (F := F) 0) $$ H
theorem pick01 (P : Fin 2 → Dev nD → sProp 𝕄) : bigSep Finset.univ (fun r => bigSep Finset.univ (P r)) ⊢ iprop(P 0 0 ∗ P 1 0) := by
  rw [two_rounds]
  exact BI.sep_mono (pick 0) (pick 0)
theorem four_mono {Φ Ψ : Fin 4 → sProp 𝕄} (h : ∀ i, Φ i ⊢ Ψ i) : four Φ ⊢ four Ψ := by
  rw [← bigSep_four, ← bigSep_four]
  exact BI.bigSep_mono fun i _ => h i

theorem toks_used (c : Dev nD) : Toks (F := F) c ⊢ Used c := by
  unfold Toks Used
  rw [bigSep_kd]
  refine BI.sep_mono ?_ (BI.sep_mono (bigSep_all fun p => pick0 _) (BI.sep_mono (bigSep_all fun p => pick0 _) (BI.sep_mono (BI.sep_mono (four_mono fun h => pick0 _) (four_mono fun h => pick0 _))
    (BI.sep_mono (BI.sep_mono (four_mono fun h => pick0 _) (four_mono fun h => pick0 _)) (BI.sep_mono (pick01 _) (pick01 _))))))
  rw [two_rounds]
  exact sep_left _ _

/-- The tokens a device pays with. -/
noncomputable def Paid (c : Dev nD) : sProp 𝕄 :=
  iprop(bigSep Finset.univ (BarTok (F := F) c) ∗ bigSep Finset.univ (RowTok (F := F) c)
    ∗ four (tS (F := F) c .r) ∗ four (tV (F := F) c .r) ∗ four (tS (F := F) c .l) ∗ four (tV (F := F) c .l) ∗ tC c .r 0 ∗ tC c .r 1 ∗ tC c .l 0 ∗ tC c .l 1)

/-- For each device a thing for each device, the other way round. -/
theorem swap (Φ : Dev nD → Dev nD → sProp 𝕄) : bigSep Finset.univ (fun c => bigSep Finset.univ (Φ c)) = bigSep Finset.univ fun p => bigSep Finset.univ fun c => Φ c p := by
  have h := bigSep_univ_equiv (Equiv.prodComm (Dev nD) (Dev nD)) fun x : Dev nD × Dev nD => Φ x.1 x.2
  rw [bigSep_univ_prod, bigSep_univ_prod] at h
  exact h

/-- Every token of a bar goes to the device that pays it. -/
theorem deal_bar : bigSep Finset.univ (fun c : Dev nD => bigSep Finset.univ fun p : Dev nD => (dutyTok ER (kcell (c, .bar)) 0 p : sProp 𝕄))
    ⊢ bigSep Finset.univ fun c => bigSep Finset.univ (BarTok (F := F) c) := by
  rw [swap]
  refine bigSep_all fun c => bigSep_all fun p => ?_
  unfold BarTok
  split
  · iintro -; iempintro
  · exact Entails.refl _
/-- So do those of a row. -/
theorem deal_row : iprop(bigSep Finset.univ (fun c : Dev nD => bigSep Finset.univ fun p : Dev nD => (dutyTok ER (kcell (c, .hs p)) 0 0 : sProp 𝕄))
      ∗ bigSep Finset.univ (fun c : Dev nD => bigSep Finset.univ fun p : Dev nD => (dutyTok ER (kcell (c, .hr p)) 0 0 : sProp 𝕄)))
    ⊢ bigSep Finset.univ fun c => bigSep Finset.univ (RowTok (F := F) c) := by
  rw [swap (fun c p : Dev nD => (dutyTok ER (kcell (c, .hr p)) 0 0 : sProp 𝕄)), ← bigSep_sep']
  refine bigSep_all fun c => ?_
  rw [← bigSep_sep']
  refine bigSep_all fun p => ?_
  unfold RowTok
  split
  · iintro -; iempintro
  · exact Entails.refl _

theorem rv_round (s : Side) (h : Fin 4) : bigSep Finset.univ (fun c : Dev nD => (dutyTok ER (kcell (c, .rv s h)) 0 0 : sProp 𝕄)) = bigSep Finset.univ fun c : Dev nD => tV c s h :=
  bigSep_univ_equiv (ring s) _
theorem cr_round (s : Side) (r : ℕ) : bigSep Finset.univ (fun c : Dev nD => (dutyTok ER (kcell (c, .cr s)) r 0 : sProp 𝕄)) = bigSep Finset.univ fun c : Dev nD => tC c s r :=
  bigSep_univ_equiv (ring s).symm _

/-- The tokens dealt round. -/
theorem deal : bigSep Finset.univ (Toks (F := F)) ⊢ bigSep Finset.univ (Paid (F := F)) := by
  refine (bigSep_all toks_used).trans ?_
  unfold Used Paid
  simp only [bigSep_sep', rv_round, cr_round]
  iintro ⟨Hb, Hs, Hr, ⟨Hsr, Hsl⟩, ⟨Hvr, Hvl⟩, ⟨H1, H2⟩, H3, H4⟩
  isplitl [Hb]; · iapply (deal_bar (F := F)) $$ Hb
  isplitl [Hs Hr]
  · iapply (deal_row (F := F))
    isplitl [Hs]; · iexact Hs
    iexact Hr
  isplitl [Hsr]; · iexact Hsr
  isplitl [Hvr]; · iexact Hvr
  isplitl [Hsl]; · iexact Hsl
  isplitl [Hvl]; · iexact Hvl
  isplitl [H1]; · iexact H1
  isplitl [H2]; · iexact H2
  isplitl [H3]; · iexact H3
  iexact H4

/-! ## Credit -/

/-- The credit a device waits with. -/
noncomputable def Credit (c : Dev nD) : sProp 𝕄 :=
  iprop(cred (tallyAt (kcell (c, .bar)) 0 7) ∗ bigSep Finset.univ (RowDue (F := F) c) ∗ four (cV (F := F) c .r) ∗ four (cV (F := F) c .l) ∗ cC c .r 0 ∗ cC c .r 1 ∗ cC c .l 0 ∗ cC c .l 1)

/-- What a device owes one peer's cell. -/
noncomputable def due (e : Due) : CellTallies nD τ sig ℕ := tallyAt (kcell (e.1, e.2.1)) e.2.2.1 e.2.2.2

/-- What a device owes, by kind. -/
theorem owe_dues (c : Dev nD) : owe (dues c) = (∑ p : Dev nD, due (dBar c p)) + ((∑ p : Dev nD, due (dRow c p))
    + (due (dHop c .r 0) + (due (dHop c .r 1) + (due (dHop c .r 2) + (due (dHop c .r 3) + (due (dHop c .l 0) + (due (dHop c .l 1) + (due (dHop c .l 2) + (due (dHop c .l 3)
    + (due (dCr c .r 0) + (due (dCr c .r 1) + (due (dCr c .l 0) + due (dCr c .l 1))))))))))))) := by
  have h8 : ∀ f : Dev nD → CellTallies nD τ sig ℕ, ∑ p : Dev nD, f p = f 0 + (f 1 + (f 2 + (f 3 + (f 4 + (f 5 + (f 6 + f 7)))))) := fun f => by
    rw [show (Finset.univ : Finset (Dev nD)) = {0, 1, 2, 3, 4, 5, 6, 7} from by decide]
    repeat rw [Finset.sum_insert (by decide)]
    rw [Finset.sum_singleton]
  rw [h8, h8, dues_eq]
  unfold owe
  simp only [List.map_cons, List.sum_cons, List.map_nil, List.sum_nil]
  simp only [show ∀ e : Due, tallyAt (kcell (e.1, e.2.1)) e.2.2.1 e.2.2.2 = due e from fun _ => rfl]
  abel

theorem cred_bar (c : Dev nD) : (Pipeline.launchCred (fun d => ∑ p : Dev nD, due (dBar d p)) c : sProp 𝕄) = cred (tallyAt (kcell (c, .bar)) 0 7) := by
  rw [Pipeline.launchCred_of_sum _ (fun c => ∑ d : Dev nD, due (dBar d c)) (by rw [Finset.sum_comm]) (fun d g h => ?_) c]
  · refine congrArg cred ?_
    have : ∀ s : Finset (Dev nD), (∑ d ∈ s, due (dBar d c)) = tallyAt (kcell (c, .bar)) 0 (∑ d ∈ s, if c = d then 0 else 1) := fun s => by
      induction s using Finset.induction_on with
      | empty => rw [Finset.sum_empty, Finset.sum_empty, tallyAt_zero]
      | insert a s ha ih => rw [Finset.sum_insert ha, Finset.sum_insert ha, ih, ← tallyAt_add]; rfl
    rw [this]
    clear this
    congr 1
    revert c; decide
  · by_contra hne
    refine h ?_
    rw [Finset.sum_apply]
    refine Finset.sum_eq_zero fun p _ => ?_
    unfold due
    refine tallyAt_ne_cell (fun hg => hne ?_) _ _
    rw [hg]; rfl

theorem cred_row (c : Dev nD) : (Pipeline.launchCred (fun d => ∑ p : Dev nD, due (dRow d p)) c : sProp 𝕄) ⊢ bigSep Finset.univ (RowDue (F := F) c) := by
  rw [Pipeline.launchCred_of_sum _ (fun c => ∑ d : Dev nD, due (dRow d c)) (by rw [Finset.sum_comm]) (fun d g h => ?_) c]
  · rw [Pipeline.cred_finsetSum]
    refine bigSep_all fun p => ?_
    unfold RowDue
    split
    · iintro -; iempintro
    · next h => unfold due dRow; rw [if_neg fun h' => h h'.symm]
  · by_contra hne
    refine h ?_
    rw [Finset.sum_apply]
    refine Finset.sum_eq_zero fun p _ => ?_
    unfold due
    refine tallyAt_ne_cell (fun hg => hne ?_) _ _
    rw [hg]; rfl

theorem cred_hop (c : Dev nD) (s : Side) (h : Fin 4) : (Pipeline.launchCred (fun d => due (dHop d s h)) c : sProp 𝕄) ⊢ cV c s h :=
  Pipeline.launchCred_tallyAt (csem (.rv s h)) (nxt s) (prv s) (nxt_prv s) (prv_nxt s) 0 _ c
theorem cred_word (c : Dev nD) (s : Side) (r : ℕ) : (Pipeline.launchCred (fun d => due (dCr d s r)) c : sProp 𝕄) ⊢ cC c s r :=
  Pipeline.launchCred_tallyAt (csem (.cr s)) (prv s) (nxt s) (prv_nxt s) (nxt_prv s) r _ c

/-- The launch's credit, by kind. -/
theorem credits (c : Dev nD) : (Pipeline.launchCred (fun d => owe (dues d)) c : sProp 𝕄) ⊢ Credit c := by
  simp only [owe_dues]
  iterate 13 rw [Pipeline.launchCred_add]
  rw [cred_bar]
  unfold Credit four
  iintro ⟨Hb, Hr, H0, H1, H2, H3, G0, G1, G2, G3, W0, W1, W2, W3⟩
  isplitl [Hb]; · iexact Hb
  isplitl [Hr]; · iapply (cred_row (F := F) c) $$ Hr
  isplitl [H0 H1 H2 H3]
  · isplitl [H0]; · iapply (cred_hop (F := F) c .r 0) $$ H0
    isplitl [H1]; · iapply (cred_hop (F := F) c .r 1) $$ H1
    isplitl [H2]; · iapply (cred_hop (F := F) c .r 2) $$ H2
    iapply (cred_hop (F := F) c .r 3) $$ H3
  isplitl [G0 G1 G2 G3]
  · isplitl [G0]; · iapply (cred_hop (F := F) c .l 0) $$ G0
    isplitl [G1]; · iapply (cred_hop (F := F) c .l 1) $$ G1
    isplitl [G2]; · iapply (cred_hop (F := F) c .l 2) $$ G2
    iapply (cred_hop (F := F) c .l 3) $$ G3
  isplitl [W0]; · iapply (cred_word (F := F) c .r 0) $$ W0
  isplitl [W1]; · iapply (cred_word (F := F) c .r 1) $$ W1
  isplitl [W2]; · iapply (cred_word (F := F) c .l 0) $$ W2
  iapply (cred_word (F := F) c .l 1) $$ W3

end Cert.KernelIdeal.Talk
-- ==== Proof.Stage.lean ====
/-
  The launch: from any memory the eight devices' kernels end, with the computed results and every semaphore at zero.
-/
module

public import proofs.«01_k».proof.Proof.Deal

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.SparseCore.ProtocolKit

variable {F : FTy → Type} [FloatOps F]

local notation "𝕄" => MT nD τ sig ℕ (Elt F) ℕ UU ℕ

variable (m : (ℓ : Loc nD τ sig) → Buf (Elt F) ℓ) (ρ : Dev nD → PrngReg)

/-! ## What the launch is about -/

/-- A device's tokens, as staged for the body, -/
noncomputable def xstg (c : Dev nD) : Vec F S1024x512 .f32 := (win0_0.blk (0 : Fin 1)).view.read (Elt F) (m ((c : Thread nD τ).loc main_arg0))
/-- its routes, -/
noncomputable def rstg (c : Dev nD) : Vec F S1024x1 .i32 := (win0_1.blk (0 : Fin 1)).view.read (Elt F) (m ((c : Thread nD τ).loc main_arg2))
/-- its experts. -/
noncomputable def estg (c : Dev nD) : Vec F S4x512x1024 .f32 := (win0_2.blk (0 : Fin 1)).view.read (Elt F) (m ((c : Thread nD τ).loc main_arg3))
/-- Every device's rounded experts, -/
noncomputable def wbOf (c : Dev nD) : Vec F S4x512x1024 .bf16 := k0_pay3 (estg m c)
/-- the table of all counts, -/
noncomputable def hbOf : Vec F S8x32 .f32 := tbl fun p => k0_pay4 (rstg m p)
/-- a device's result. -/
noncomputable def outOf (c : Dev nD) : Vec F S1024x1024 .f32 := outAt (wbOf m) (hbOf m) c (xstg m c) (rstg m c)

/-- What the talk gives a device before its kernel starts. -/
noncomputable def Hand (c : Dev nD) : sProp 𝕄 := iprop((Paid (F := F) c ∗ Credit c) ∗ bigSep Finset.univ (fun k => at' (F := F) c k 0))
/-- That, with what every device may use. -/
noncomputable def start (c : Dev nD) : sProp 𝕄 := iprop((∃ K, Rec (wbOf m) (hbOf m) K) ∗ Hand c)
/-- Its scratch memory. -/
noncomputable def Scratch (c : Dev nD) : sProp 𝕄 :=
  iprop((∃ f, hisPts (F := F) c Finset.univ fullShare f) ∗ (∃ f, ewPts (F := F) c fullShare f) ∗ anyBuf (F := F) c .r Finset.univ ∗ anyBuf (F := F) c .l Finset.univ)

theorem Start_intro (c : Dev nD) : iprop(Scratch (F := F) c ∗ Hand c) ⊢ Start c := by
  rw [Start_eq]
  unfold Scratch Hand Paid Credit
  iintro ⟨⟨A1, A2, A3, A4⟩, ⟨⟨B1, B2, B3, B4, B5, B6, B7, B8, B9, B10⟩, C1, C2, C3, C4, C5, C6, C7, C8⟩, D⟩
  iclose
theorem End_elim (c : Dev nD) : End (F := F) c ⊢ iprop(Scratch (F := F) c ∗ bigSep Finset.univ (fun k => (semVal (kcell (c, k)) 0 : sProp 𝕄))) := by
  rw [End_eq]
  unfold Scratch
  iintro ⟨A1, A2, A3, A4, D⟩
  iclose

/-- The staging of one launch of the kernel. -/
noncomputable def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => rstg m c
    | ⟨2, _⟩ => estg m c
    | ⟨3, _⟩ => outOf m c
  Φ t := match t with
    | ⟨0, _⟩ => iprop(start m c ∗ Scratch c)
    | ⟨_ + 1, _⟩ => End c
  q _ := fullShare
  owed t := match t with
    | ⟨0, _⟩ => owe (dues c)
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer, whole. -/
noncomputable abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)
theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]
theorem stg_intro (c : Dev nD) (b : Ref sig .tc) (X : b.ty.Contents (Elt F)) : iprop(((c : Thread nD τ).loc b) ↦{fullShare} X) ⊢ (stg c b X : sProp 𝕄) := by
  iintro H
  iexists X
  isplitr; · ipureintro; rfl
  iexact H

set_option maxRecDepth 4000 in
/-- What the body gets. -/
noncomputable def BodyPre (c : Dev nD) : sProp 𝕄 :=
  iprop((start m c ∗ Scratch c) ∗ (dats m 0 c).owesAt (0 : ℕ) (t0_0 : Fin cfg0.N).castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- What it leaves. -/
noncomputable def BodyPost (c : Dev nD) : sProp 𝕄 :=
  iprop(End c ∗ (dats m 0 c).owesAt (0 : ℕ) (t0_0 : Fin cfg0.N).succ ∗ stg c cc0_stg0_0 (xstg m c) ∗ stg c cc0_stg1_0 (rstg m c) ∗ stg c cc0_stg2_0 (estg m c) ∗ stg c cc0_stg3_0 (outOf m c))

theorem before_0 (c : Dev nD) (d) : (dats m 0 c).before (0 : Fin 4) t0_0 d = xstg m c := by unfold Dat.before; rw [if_pos (fetch0_0 t0_0)]; rfl
theorem before_1 (c : Dev nD) (d) : (dats m 0 c).before (1 : Fin 4) t0_0 d = rstg m c := by unfold Dat.before; rw [if_pos (fetch0_1 t0_0)]; rfl
theorem before_2 (c : Dev nD) (d) : (dats m 0 c).before (2 : Fin 4) t0_0 d = estg m c := by unfold Dat.before; rw [if_pos (fetch0_2 t0_0)]; rfl

theorem owes_of (c : Dev nD) (l : List Due) (t : Fin (cfg0.N + 1)) (h : (dats m 0 c).owed t = owe l) : Owes c l ⊢ (dats m 0 c).owesAt (0 : ℕ) t := by
  unfold Owes Dat.owesAt Pipeline.owesWithin
  rw [h]
  iintro ⟨%W, H⟩
  iexists W
  isplitr; · ipureintro; exact fun _ _ => Or.inl trivial
  iexact H
theorem of_owes (c : Dev nD) (l : List Due) (t : Fin (cfg0.N + 1)) (h : (dats m 0 c).owed t = owe l) : (dats m 0 c).owesAt (0 : ℕ) t ⊢ Owes c l := by
  unfold Owes Dat.owesAt Pipeline.owesWithin
  rw [h]
  iintro ⟨%W, -, H⟩
  iexists W
  iexact H

attribute [local irreducible] Start End Rec Owes Hand Scratch in
/-- The body, from what it gets to what it leaves. -/
theorem body_post (c : Dev nD) : BodyPre m c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) (fun _ => BodyPost m c) := by
  unfold BodyPre start
  simp only [before_0, before_1, before_2]
  iintro ⟨⟨⟨⟨%K, #HR⟩, HH⟩, HS⟩, HO, ⟨%d0, %g0, %h0, Hx⟩, ⟨%d1, %g1, %h1, Hr⟩, ⟨%d2, %g2, %h2, He⟩, ⟨%d3, %g3, %h3, Ho⟩⟩
  subst h0 h1 h2
  ihave HO := (of_owes m c (dues c) _ rfl) $$ HO
  iapply (body_run (wbOf m) (hbOf m) K c (xstg m c) (rstg m c) (estg m c) rfl (fun p => k0_pay4 (rstg m p)) rfl rfl) $$ [HO HH HS Hx Hr He Ho]
  · isplitr; · iexact HR
    isplitl [HO]; · iexact HO
    isplitl [HH HS]
    · iapply (Start_intro (F := F) c)
      isplitl [HS]; · iexact HS
      iexact HH
    isplitl [Hx]; · iexact Hx
    isplitl [Hr]; · iexact Hr
    isplitl [He]; · iexact He
    iexists g3
    unfold outPts
    iexact Ho
  iintro ⟨HO, HE, Hx, Hr, He, Ho⟩
  unfold BodyPost
  isplitl [HE]; · iexact HE
  isplitl [HO]; · iapply (owes_of m c [] _ rfl) $$ HO
  isplitl [Hx]; · iapply (stg_intro (F := F) c cc0_stg0_0) $$ Hx
  isplitl [Hr]; · iapply (stg_intro (F := F) c cc0_stg1_0) $$ Hr
  isplitl [He]; · iapply (stg_intro (F := F) c cc0_stg2_0) $$ He
  iapply (stg_intro (F := F) c cc0_stg3_0)
  unfold outPts
  iexact Ho

set_option maxRecDepth 4000 in
/-- What the pipeline asks of the body. -/
theorem body_obligation (c : Dev nD) : BodyObligation (dats m 0 c) (defs₀ (F := F)) 𝒱₀ (0 : ℕ) Set.univ := fun t => by
  rw [fin_N0 t]
  rw [bigSep_W, bigSep_W]
  simp only [owns_stg]
  exact body_post m c

end Cert.KernelIdeal.Talk
-- ==== Proof.Launch.lean ====
/-
  The launch: from any memory the eight devices' kernels end, with the computed results and every semaphore at zero.
-/
module

public import proofs.«01_k».proof.Proof.Stage
public import Idealize.ShloMosaic.Lib.Quiescent
public import Idealize.ShloMosaic.Lib.Pipeline.CollectiveSegs

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.SparseCore.ProtocolKit

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores at the start -/

/-- The kinds of the kernel's own semaphores: all but the barrier. -/
abbrev Own : Type := Fin 8 ⊕ Fin 8 ⊕ (Side × Fin 4) ⊕ (Side × Fin 4) ⊕ Side
/-- The semaphore of each. -/
noncomputable def osem (k : Own) : SemLoc sig := csem (sorted.symm (.inr k))

theorem csem_scoped (k : Kd) (hk : k ≠ .bar) : (csem k).isScoped .tc = true := by
  rcases k with _ | p | p | ⟨s, h⟩ | ⟨s, h⟩ | s <;> try cases s
  · exact absurd rfl hk
  all_goals clear hk
  all_goals first | (revert p; decide) | (revert h; decide) | decide
theorem kindOf_stage : ∀ (w : Fin 4) (s : Fin (cfg0.spec w).nbuf), kindOf (.dma ((cfg0.spec w).sem s)) = none := by
  intro w
  fin_cases w <;> decide

theorem ownSemFacts : Pipeline.OwnSemFacts cfg0.spec osem where
  isScoped k := csem_scoped _ fun h => by
    have := congrArg sorted h
    rw [Equiv.apply_symm_apply] at this
    exact absurd this (by simp [sorted])
  inj := csem_injective.comp (sorted.symm.injective.comp Sum.inr_injective)
  disj k w s h := by
    have := congrArg kindOf h
    unfold osem at this
    rw [kindOf_csem, kindOf_stage] at this
    cases this

theorem unscoped_eq (c : Dev nD) : (unscopedSems0 c : sProp 𝕄) = semVal (kcell (c, .bar)) 0 := by
  unfold unscopedSems0; rw [bigSep_eq_bigSepL_of_eq [SemLoc.reg (sig.barrier 0 rfl)] (by decide) (by decide)]; rfl

/-- The barrier's semaphore and the kernel's own are all the talk's. -/
theorem sems_eq (c : Dev nD) : (bigSep Finset.univ (fun k : Kd => semVal (kcell (c, k)) 0) : sProp 𝕄)
    = iprop(unscopedSems0 c ∗ Pipeline.ownSems0 (Ix := ℕ) (Name := ℕ) (U := UU) (Lvl := ℕ) (Val := Elt F) (τ := τ) osem c) := by
  rw [bigSep_univ_equiv sorted.symm, bigSep_univ_sum, unscoped_eq, show (Finset.univ : Finset Unit) = {()} from rfl, bigSep_singleton]
  rfl

/-! ## The records -/

/-- What the launch makes of the talk's resource for a device, -/
noncomputable def G (c : Dev nD) : sProp 𝕄 :=
  iprop(bigSep Finset.univ (fun k : Kd => roundState ER (Rd (wbOf m) (hbOf m)) (kcell (c, k)) 0)
    ∗ (bigSep Finset.univ (fun k : Kd => at' (F := F) c k 0) ∗ bigSep Finset.univ (fun k : Kd => (reached ER (kcell (c, k)) 0 : sProp 𝕄))) ∗ Toks c)
/-- and what all devices' semaphores together make of that. -/
noncomputable def G' (c : Dev nD) : sProp 𝕄 :=
  iprop((∃ K : Dev nD × Kd → ℕ, bigSep Finset.univ (fun ck : Dev nD × Kd => cellInv ER (Rd (wbOf m) (hbOf m)) (K ck) (kcell ck))
      ∗ bigSep Finset.univ (fun ck : Dev nD × Kd => (reached ER (kcell ck) 0 : sProp 𝕄)))
    ∗ bigSep Finset.univ (fun k : Kd => at' (F := F) c k 0) ∗ Paid c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => Toks c := by
    unfold allToks Toks
    rw [bigSep_map, bigSep_univ_prod]
    refine BI.bigSep_congr fun c _ => ?_
    rw [bigSep_univ_prod]
    refine BI.bigSep_congr fun k _ => ?_
    rw [bigSep_univ_prod]
    rfl
  iintro HX
  imod (Rounds.fund ER (Rd (wbOf m) (hbOf m)) allCells allToks) $$ HX with ⟨Hst, Hr, Hat, Htok⟩
  imodintro
  irwh [hX fun g => roundState ER (Rd (wbOf m) (hbOf m)) g 0] at Hst
  irwh [hX fun g => atPos ER g 0 ∅ 0] at Hat
  irwh [hX fun g => reached ER g 0] at Hr
  irwh [hT] at Htok
  unfold G; simp only [bigSep_sep']
  iclose

theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (wbOf m) (hbOf m)) κ (kcell (c, k))))
          ∗ (bigSep Finset.univ (fun k : Kd => at' (F := F) c k 0) ∗ bigSep Finset.univ (fun k : Kd => (reached ER (kcell (c, k)) 0 : sProp 𝕄))) ∗ Toks c) := by
  have h : iprop(bigSep Finset.univ (fun k : Kd => semVal (kcell (c, k)) 0) ∗ bigSep Finset.univ fun k : Kd => roundState ER (Rd (wbOf m) (hbOf m)) (kcell (c, k)) 0)
      ⊢ (|={Set.univ}=> bigSep Finset.univ fun k => iprop(∃ κ : ℕ, cellInv ER (Rd (wbOf m) (hbOf m)) κ (kcell (c, k))) : sProp 𝕄) := by
    rw [← bigSep_sep']
    exact (BI.bigSep_mono fun k _ => (Rounds.body_intro ER (Rd (wbOf m) (hbOf m)) (kcell (c, k))).trans inv_alloc).trans (bigSep_fupd _ _)
  rw [sems_eq] at h
  unfold G
  iintro ⟨Hos, Hus, Hst, Hat, Htok⟩
  imod h $$ [Hos Hus Hst] with Hinv
  · iclose
  imodintro
  iclose

theorem regroup :
    (bigSep Finset.univ fun c : Dev nD => iprop((bigSep Finset.univ fun k => iprop(∃ κ : ℕ, cellInv ER (Rd (wbOf m) (hbOf m)) κ (kcell (c, k))))
          ∗ (bigSep Finset.univ (fun k : Kd => at' (F := F) c k 0) ∗ bigSep Finset.univ (fun k : Kd => (reached ER (kcell (c, k)) 0 : sProp 𝕄))) ∗ Toks c) : sProp 𝕄)
      ⊢ bigSep Finset.univ (G' m) := by
  rw [bigSep_sep', bigSep_sep', bigSep_sep', ← bigSep_univ_prod (fun ck : Dev nD × Kd => iprop(∃ κ : ℕ, cellInv ER (Rd (wbOf m) (hbOf m)) κ (kcell ck))),
    ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd (wbOf m) (hbOf m)) κ (kcell ck) : sProp 𝕄))) $$ HI
  icases HK with ⟨%K, #HI⟩
  ihave Htk := (deal (F := F)) $$ Htok
  icombine Hat Htk as H
  irwh [(bigSep_sep' Finset.univ (fun c : Dev nD => bigSep Finset.univ (fun k : Kd => at' (F := F) c k 0)) (Paid (F := F))).symm] at H
  iapply (bigSep_with_persistent (R := iprop(bigSep Finset.univ (fun ck : Dev nD × Kd => cellInv ER (Rd (wbOf m) (hbOf m)) (K ck) (kcell ck))
      ∗ bigSep Finset.univ (fun ck : Dev nD × Kd => (reached ER (kcell ck) 0 : sProp 𝕄)))) (Ψ := G' m)
    (Φ := fun c => iprop(bigSep Finset.univ (fun k : Kd => at' (F := F) c k 0) ∗ Paid c)) fun c _ => by
      unfold G'
      iintro ⟨#H, HP⟩
      isplitr
      · iexists K
        iexact H
      iexact HP)
  isplitr
  · isplitr; · iexact HI
    iexact HR
  iexact H

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => alloc m c).trans (bigSep_fupd _ _)).trans (BI.fupd_mono (regroup m))

/-! ## Into the kernel and out of it -/

/-- What stays outside the kernel: the one argument it does not read. -/
noncomputable def Aside (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred (fun d => owe (dues d)) c ∗ prngReg c (ρ c) ∗ G' m c)
      ⊢ |={Set.univ}=> iprop(start m c ∗ Aside m c) := by
  rw [Pipeline.unscopedRestP_none, unscopedRest0_eq]
  unfold start Hand G' Aside
  iintro ⟨HA, #Hlev, Hcr, -, ⟨%K, #HI, #HR⟩, Hat, HP⟩
  ihave Hc := (credits (F := F) c) $$ Hcr
  imodintro
  isplitr [HA]
  · isplitr [HP Hc Hat]
    · iexists K
      unfold Rec
      isplitr; · iexact HI
      isplitr; · iexact HR
      iexact Hlev
    · iclose
  · iexact HA

theorem scratch_eq (c : Dev nD) : (Pipeline.scopedRest (Ix := ℕ) (Name := ℕ) (U := UU) (Lvl := ℕ) (Val := Elt F) spec0 c : sProp 𝕄) = Scratch c := scopedRest0_eq c

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Scratch c) from rfl, show Pipeline.scopedRest cfg0.spec c = (Scratch c : sProp 𝕄) from scratch_eq c]
  iintro ⟨Hs, -, Hr⟩
  iclose

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = End c from rfl, show Pipeline.scopedRest cfg0.spec c = (Scratch c : sProp 𝕄) from scratch_eq c]
  have h := End_elim (F := F) c
  rw [sems_eq] at h
  refine h.trans ?_
  iintro ⟨HS, HU, HO⟩
  iclose

theorem waits (c : Dev nD) : (levAts L lv : sProp 𝕄) ⊢ Pipeline.cellsWaits cfgs (dats m) (0 : ℕ) 0 c :=
  Pipeline.cellsWaits_intro cfgs (dats m) (0 : ℕ) 0 c fun w s t => by
    have hl : lv ((c : Thread nD τ), SemLoc.dma ((cfg0.spec w).sem s)) 0 = 0 := by
      show (match kindOf (SemLoc.dma ((cfg0.spec w).sem s)) with | some k => lvK k 0 | none => 0) = 0
      rw [kindOf_stage]
    rcases t with ⟨_ | _, ht⟩
    · exact mayWait_owe c _ 0 (by decide) (l := dues c) (by rw [hl]; rfl)
    · exact mayWait_owe c _ 0 (by decide) (l := []) rfl

theorem share_eq (c : Dev nD) (w : Fin cfg0.W) : (dats m 0 c).share w = fullShare := by unfold Dat.share; split <;> rfl

/-! ## The run -/

/-- Before the launch. -/
noncomputable def s₀ : MemSt nD τ sig (Elt F) := ⟨m, fun _ => 0, ρ⟩

/-- The whole resource at the start. -/
noncomputable def u₀ : UU := (initOf (Pipeline.cells cfgs cellOf_inj) (Pipeline.launchToks cfgs cellOf_inj), initOf allCells allToks)

/-- What a window's array holds in the end. -/
noncomputable def finalA (c : Dev nD) (w : Fin cfg0.W) : Buf (Elt F) ((cfg0.win w).arr.view.loc (c : Thread nD τ)) := (dats m 0 c).arrAt w cfg0.N

set_option maxRecDepth 8000 in
theorem run_arrays : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe (dues d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR.toFun (initOf allCells allToks)) ⊢ (BI.own (ER (initOf allCells allToks)) : sProp 𝕄) from Entails.refl _) $$ HX
      ihave HP := (show BI.own (embL.toFun (initOf (Pipeline.cells cfgs cellOf_inj) (Pipeline.launchToks cfgs cellOf_inj))) ⊢ (BI.own (EP (initOf (Pipeline.cells cfgs cellOf_inj) (Pipeline.launchToks cfgs cellOf_inj))) : sProp 𝕄) from Entails.refl _) $$ HP
      imod (fund m) $$ HX with HG
      imodintro
      isplitl [HP] <;> iassumption)
    (hglob := glob m)
    (hA := fun _ _ => rfl) (hpf := fun _ k => k.elim0)
    (X := start m) (Y := fun c => unscopedSems0 c) (Z := Aside m)
    (hX := start_intro m ρ) (hin := phi_intro m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      have h2 := pointsTo_read_all (Ix := ℕ) (Name := ℕ) (U := UU) (Lvl := ℕ) {()} (fun _ : Unit => ((c : Thread nD τ).loc main_arg1)) (fun _ => m ((c : Thread nD τ).loc main_arg1)) s'
      rw [bigSep_singleton] at h2
      iintro ⟨Hu, HZ, HSI⟩
      imod (Pipeline.unscopedSems0_read (X := unscopedSems0 c) (c := c) fupd_intro s') $$ [Hu HSI] with ⟨%h1, HSI⟩
      · isplitl [Hu] <;> iassumption
      unfold Aside
      ihave H := h2 $$ [HZ HSI]
      · isplitl [HZ] <;> iassumption
      icases H with ⟨%h3, HSI⟩
      imodintro
      isplitr
      · ipureintro
        exact ⟨h1, h3 () (Finset.mem_singleton_self _)⟩
      iexact HSI)
    (hQ := fun _ h hs => ⟨fun c => ⟨fun w => (h c).1 w, (h c).2.2.2⟩, sem_eq_zero hs fun c => (h c).2.2.1⟩)

end Cert.KernelIdeal.Talk
-- ==== Proof.Final.lean ====
/-
  What the launch leaves in every device's arrays.
-/
module

public import proofs.«01_k».proof.Proof.Launch

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F]

local notation "𝕄" => MT nD τ sig ℕ (Elt F) ℕ UU ℕ

variable (m : (ℓ : Loc nD τ sig) → Buf (Elt F) ℓ) (ρ : Dev nD → PrngReg)

/-! ## A staged block is the whole array -/

theorem xstg_eq (c : Dev nD) : xstg m c = m ((c : Thread nD τ).loc main_arg0) :=
  Memref.read_access_unit_zero (Elt F) main_arg0 (funext fun a => by fin_cases a <;> rfl) (fun a => by fin_cases a <;> decide) _
theorem rstg_eq (c : Dev nD) : rstg m c = m ((c : Thread nD τ).loc main_arg2) :=
  Memref.read_access_unit_zero (Elt F) main_arg2 (funext fun a => by fin_cases a <;> rfl) (fun a => by fin_cases a <;> decide) _
theorem estg_eq (c : Dev nD) : estg m c = m ((c : Thread nD τ).loc main_arg3) :=
  Memref.read_access_unit_zero (Elt F) main_arg3 (funext fun a => by fin_cases a <;> rfl) (fun a => by fin_cases a <;> decide) _
theorem read_out (c : Dev nD) (f : Buf (Elt F) ((c : Thread nD τ).loc main_v1)) : (win0_3.blk (0 : Fin 1)).view.read (Elt F) f = f :=
  Memref.read_access_unit_zero (Elt F) main_v1 (funext fun a => by fin_cases a <;> rfl) (fun a => by fin_cases a <;> decide) _

theorem finalA_out (c : Dev nD) : finalA m c (3 : Fin 4) = outOf m c := by
  refine (read_out c _).symm.trans ?_
  unfold finalA
  rw [show cfg0.N = (t0_0 : Fin cfg0.N).val + 1 from rfl, (dats m 0 c).arrAt_succ (3 : Fin 4) t0_0, if_pos (flush0_3 t0_0)]
  exact View.read_write_univ _ _

/-- From any memory the eight devices' program ends, the arguments as they were, every device's result computed and every semaphore at zero. -/
theorem run_all : θ_run defs (onTc (τ := τ) (main (F := F))) ⟨m, fun _ => 0, ρ⟩ (fun r =>
    (∀ c : Dev nD, r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono (fun r h => ⟨fun c => ?_, h.2⟩) (run_arrays m ρ)
  have hA := (h.1 c).1
  exact ⟨(hA (3 : Fin 4)).trans (finalA_out m c), (hA (0 : Fin 4)).trans ((dats m 0 c).arrAt_in (0 : Fin 4) rfl _), (h.1 c).2,
    (hA (1 : Fin 4)).trans ((dats m 0 c).arrAt_in (1 : Fin 4) rfl _), (hA (2 : Fin 4)).trans ((dats m 0 c).arrAt_in (2 : Fin 4) rfl _)⟩

/-- The same without the results. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_all m ρ)

end Cert.KernelIdeal.Talk
-- ==== Proof.Traced.lean ====
/-
  The kernel as it was traced is, definition by definition, the kernel read at the ideal numbers, before its numbers are
  chosen; so what is proved of the one holds of the other.
-/
module

public import proofs.«01_k».proof.Proof.Final
public import proofs.«01_k».proof.Proof.Gen.Kernel

@[expose] public section

noncomputable section

namespace Cert.Proof

open Idealize.ShloMosaic Idealize.SL.Sem
open Idealize.ShloMosaic.TcCoe

variable {F : FTy → Type} [FloatOps F]

attribute [local instance] Cert.Kernel.Gen.facts Cert.KernelIdeal.Gen.facts

/-- The two body tables are one. -/
theorem defs_eq : (Cert.Kernel.defs₀ (F := F) : Defs Cert.KernelIdeal.nD Cert.KernelIdeal.τ Cert.KernelIdeal.sig (Elt F) Cert.KernelIdeal.Λ₀) = Cert.KernelIdeal.defs₀ := by
  unfold Cert.Kernel.defs₀ Cert.KernelIdeal.defs₀
  refine congrArg Defs.onTc ?_
  funext l a
  match l, a with
  | 0, (t, s) => rfl

/-- The traced kernel ends, its arguments unchanged and every semaphore at zero. -/
theorem kernel_run : Cert.quiescent_Kernel (hKernel := Cert.Kernel.Gen.facts) := fun m ρ _ => by
  have h := Cert.KernelIdeal.Talk.run_kept (F := Bits) m ρ
  unfold Cert.KernelIdeal.defs at h
  rw [← defs_eq] at h
  exact h

end Cert.Proof
-- ==== Proof.Frames.lean ====
/-
  The three programs end with their arguments unchanged and every semaphore at zero.
-/
module

public import proofs.«01_k».proof.Proof.Traced
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at the ideal numbers. -/
theorem ideal_run : Cert.quiescent_KernelIdeal (hKernelIdeal := Cert.KernelIdeal.Gen.facts) := fun m ρ _ =>
  Cert.KernelIdeal.Talk.run_kept (F := Ideal) m ρ

/-- The reference: it has no semaphore. -/
theorem reference_run : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof
-- ==== Proof.Count.lean ====
/-
  Counting by doubling, and counting block by block.
-/
module

public import Mathlib.Algebra.BigOperators.Fin
public import Mathlib.Algebra.BigOperators.Intervals
public import Mathlib.Data.Nat.Count
public import Mathlib.Data.EReal.Operations

@[expose] public section

namespace Cert.Count

/-- One where the property holds. -/
def hot (p : ℕ → Bool) (t : ℕ) : ℕ := if p t then 1 else 0

/-- The sum of the last `s` values up to `t`. -/
def win (o : ℕ → ℕ) (s t : ℕ) : ℕ := ∑ d ∈ Finset.range s, if d ≤ t then o (t - d) else 0

theorem win_one (o : ℕ → ℕ) (t : ℕ) : win o 1 t = o t := by simp [win]

/-- Adding what lies `s` places back doubles the window. -/
theorem win_double (o : ℕ → ℕ) (s t : ℕ) : win o (s + s) t = win o s t + if t < s then 0 else win o s (t - s) := by
  unfold win
  rw [Finset.sum_range_add]
  congr 1
  split_ifs with h
  · exact Finset.sum_eq_zero fun d _ => if_neg (by omega)
  · refine Finset.sum_congr rfl fun d _ => ?_
    rw [show t - (s + d) = t - s - d from by omega]
    exact if_congr (by omega) rfl rfl

/-- A window that reaches back to the start. -/
theorem win_full (o : ℕ → ℕ) (s t : ℕ) (h : t < s) : win o s t = ∑ u ∈ Finset.range (t + 1), o u := by
  unfold win
  rw [← Finset.sum_flip, ← Finset.sum_subset (s₁ := Finset.range (t + 1)) (by intro x; simp only [Finset.mem_range]; omega)]
  · refine Finset.sum_congr rfl fun d hd => if_pos ?_
    have := Finset.mem_range.mp hd
    omega
  · intro d _ hd
    exact if_neg fun h' => hd (Finset.mem_range.mpr (by omega))

theorem sum_hot (p : ℕ → Bool) (n : ℕ) : ∑ u ∈ Finset.range n, hot p u = Nat.count (fun u => p u) n := by
  unfold hot
  rw [Nat.count_eq_card_filter_range, Finset.card_filter]

/-- All blocks before the `c`-th. -/
theorem blocks_before (p : ℕ → Bool) (n c : ℕ) :
    ∑ s ∈ Finset.range c, ∑ u ∈ Finset.range n, hot p (n * s + u) = ∑ u ∈ Finset.range (n * c), hot p u := by
  induction c with
  | zero => rfl
  | succ c ih => rw [Finset.sum_range_succ, ih, Nat.mul_succ, Finset.sum_range_add]

/-- The same, as a sum over all blocks of which the later ones are masked. -/
theorem blocks_masked (p : ℕ → Bool) (n N c : ℕ) (h : c ≤ N) :
    ∑ s : Fin N, (∑ u : Fin n, hot p (n * s.val + u.val)) * (if s.val < c then 1 else 0) = ∑ u ∈ Finset.range (n * c), hot p u := by
  rw [← blocks_before, Fin.sum_univ_eq_sum_range (fun s => (∑ u : Fin n, hot p (n * s + u.val)) * (if s < c then 1 else 0)) N]
  rw [← Finset.sum_subset (s₁ := Finset.range c) (by intro x; simp only [Finset.mem_range]; omega)]
  · refine Finset.sum_congr rfl fun s hs => ?_
    rw [if_pos (Finset.mem_range.mp hs), mul_one, Fin.sum_univ_eq_sum_range (fun u => hot p (n * s + u)) n]
  · intro s _ hs
    rw [if_neg (fun h' => hs (Finset.mem_range.mpr h')), mul_zero]

/-- A token's place among those of its kind: those of its block up to it without itself, and those of the blocks before. -/
theorem place (p : ℕ → Bool) (n N c t : ℕ) (h : c ≤ N) :
    win (fun u => hot p (n * c + u)) 1 t + Nat.count (fun u => p u) (n * c + t) =
      (∑ u ∈ Finset.range (t + 1), hot p (n * c + u)) + ∑ s : Fin N, (∑ u : Fin n, hot p (n * s.val + u.val)) * (if s.val < c then 1 else 0) := by
  rw [blocks_masked p n N c h, win_one, Finset.sum_range_succ, ← sum_hot, Finset.sum_range_add]
  omega

/-- Comparing such counts among the extended reals. -/
theorem lt_iff (a o b k : ℕ) : (((a : ℕ) : EReal) - ((o : ℕ) : EReal)) + ((b : ℕ) : EReal) < ((k : ℕ) : EReal) ↔ a + b < k + o := by
  rw [← EReal.coe_coe_eq_natCast, ← EReal.coe_coe_eq_natCast, ← EReal.coe_coe_eq_natCast, ← EReal.coe_coe_eq_natCast, ← EReal.coe_sub, ← EReal.coe_add, EReal.coe_lt_coe_iff]
  rw [← Nat.cast_lt (α := ℝ)]
  push_cast
  constructor <;> intro h <;> linarith

/-- The places of a finite set that come before one. -/
theorem card_before (p : ℕ → Bool) (N i : ℕ) (h : i ≤ N) : (Finset.univ.filter fun j : Fin N => p j.val = true ∧ j.val < i).card = Nat.count (fun u => p u) i := by
  rw [Nat.count_eq_card_filter_range, ← Finset.card_map Fin.valEmbedding]
  congr 1
  ext x
  simp only [Finset.mem_map, Finset.mem_filter, Finset.mem_univ, true_and, Fin.valEmbedding_apply, Finset.mem_range]
  exact ⟨fun ⟨j, hj, e⟩ => e ▸ ⟨hj.2, hj.1⟩, fun hx => ⟨⟨x, by omega⟩, ⟨hx.2, hx.1⟩, rfl⟩⟩

/-- A sum around the ring, in the order in which the blocks pass by. -/
theorem around {M : Type} [AddCommMonoid M] (g : Fin 8 → M) (c : Fin 8) :
    0 + g c + g (c + 7) + g (c + 1) + g (c + 6) + g (c + 2) + g (c + 5) + g (c + 3) + g (c + 4) = ∑ o, g o := by
  have h0 : c + 0 = c := by revert c; decide
  have hb : Function.Bijective fun o : Fin 8 => c + o := by revert c; decide
  rw [← hb.sum_comp g, Fin.sum_univ_eight]
  simp only [h0, zero_add]
  ac_rfl

end Cert.Count
-- ==== Proof.Mask.lean ====
/-
  Which token is chosen for which expert: what the kernel's masks hold among the ideal numbers.
-/
module

public import proofs.«01_k».proof.Proof.Final
public import proofs.«01_k».proof.Proof.Count
public import Idealize.ShloMosaic.Lib.Pointwise

@[expose] public section

noncomputable section

namespace Cert.KernelIdeal.Talk

open Cert.KernelIdeal Cert.KernelIdeal.Gen
open Idealize.ShloMosaic
open Cert.Count

/-! ## Bits and literals -/

theorem bit_f32 (b : BitVec 1) : FloatOps.sitofp (F := Ideal) .f32 (b.setWidth 32) = (((if b = 1#1 then 1 else 0 : ℕ) : ℕ) : EReal) := by
  have h : b = 0#1 ∨ b = 1#1 := by revert b; decide
  rcases h with rfl | rfl
  · exact (show ((((0#32 : BitVec 32).toInt : ℝ)) : EReal) = _ by simp)
  · exact (show ((((1#32 : BitVec 32).toInt : ℝ)) : EReal) = _ by simp)

theorem ofBits_cap : Ideal.ofBits .f32 0x434C0000#32 = ((204 : ℕ) : EReal) := by
  rw [← EReal.coe_coe_eq_natCast]
  simp [Ideal.ofBits, Ideal.ieee, -EReal.coe_mul]; norm_num

theorem eq_bit {w : ℕ} (x y : BitVec w) : (IntOp.cmpi .eq x y = 1#1) = (x = y) := by
  by_cases h : x = y
  · simp [IntOp.cmpi, h]
  · simp [IntOp.cmpi, h, beq_eq_false_iff_ne.mpr h]

/-! ## Tokens, by the expert they ask for -/

variable (E : ℕ → BitVec 32)

/-- The token asks for the expert. -/
def asks (k : ℕ) (i : ℕ) : Bool := E i == BitVec.ofNat 32 k

/-- The expert serves the token: it asks for it, and fewer than 204 tokens before it do. -/
def served (k : ℕ) (i : ℕ) : Prop := E i = BitVec.ofNat 32 k ∧ Nat.count (fun u => asks E k u) i < 204

instance (k i : ℕ) : Decidable (served E k i) := inferInstanceAs (Decidable (_ ∧ _))

theorem hot_asks (k i : ℕ) : hot (asks E k) i = if E i = BitVec.ofNat 32 k then 1 else 0 := by
  unfold hot asks
  by_cases h : E i = BitVec.ofNat 32 k <;> simp [h]

variable (r : Vec Ideal S1024x1 .i32)

/-- The device's routes are its part of all tokens' experts. -/
def IsBlock (c : Fin 8) : Prop := ∀ t : Fin 1024, r (ix2 t 0) = E (1024 * c.val + t.val)

variable {E r}

theorem one_hot {c : Fin 8} (hr : IsBlock E r c) (t : Fin 1024) (k : Fin 32) : k0_pay2 (F := Ideal) r (ix2 t k) = ((hot (asks E k) (1024 * c.val + t.val) : ℕ) : EReal) := by
  pointwise [k0_pay2, k0_pay1]
  rw [bit_f32, hr t, hot_asks]
  simp only [eq_bit]

theorem counts {c : Fin 8} (hr : IsBlock E r c) (k : Fin 32) : k0_pay4 (F := Ideal) r (ix2 0 k) = ((∑ u : Fin 1024, hot (asks E k) (1024 * c.val + u.val) : ℕ) : EReal) := by
  pointwise [k0_pay4]
  rw [Nat.cast_sum]
  exact Finset.sum_congr rfl fun u _ => one_hot hr u k

theorem earlier (c s : Fin 8) : (IntOp.cmpi .slt (BitVec.ofNat 32 s.val) (wd c) = 1#1) = (s.val < c.val) := by
  revert c s; decide

variable {R : Dev nD → Vec Ideal S1024x1 .i32}

theorem earlier_counts (hR : ∀ s, IsBlock E (R s) s) (c s : Fin 8) (k : Fin 32) :
    k0_pay5 (F := Ideal) (wd c) (tbl fun p => k0_pay4 (R p)) (ix2 s k)
      = (((∑ u : Fin 1024, hot (asks E k) (1024 * s.val + u.val)) * (if s.val < c.val then 1 else 0) : ℕ) : EReal) := by
  pointwise [k0_pay5]
  rw [bit_f32]
  simp only [earlier]
  have h : tbl (fun p => k0_pay4 (R p)) (ix2 s k) = _ := (congrArg (k0_pay4 (F := Ideal) (R s)) (Idealize.ShloMosaic.eq_ix2 _)).trans (counts (hR s) k)
  rw [h]
  generalize ∑ u : Fin 1024, hot (asks E k) (1024 * s.val + u.val) = n
  split_ifs <;> simp

/-! ## The running count, by doubling -/

/-- The array holds, at each token, how often each of 32 kinds occurred among the last `n` tokens up to it. -/
def Runs (o : Fin 32 → ℕ → ℕ) (n : ℕ) (a : FVec Ideal S1024x32 .f32) : Prop := ∀ (t : Fin 1024) (k : Fin 32), a (ix2 t k) = ((win (o k) n t.val : ℕ) : EReal)

theorem Runs.step {o : Fin 32 → ℕ → ℕ} {n l : ℕ} {a : FVec Ideal S1024x32 .f32} (h : Runs o n a) (hs : S1024x32.Slices ![0, 0] ⟨2, ![l, 32]⟩)
    (hc : Shape.Concatenates [⟨2, ![n, 32]⟩, ⟨2, ![l, 32]⟩] S1024x32 0) :
    Runs o (n + n) (addf a (concatenate S1024x32 0 [⟨⟨2, ![n, 32]⟩, broadcast ⟨2, ![n, 32]⟩ (Scalar.ofBits .f32 0x00000000#32)⟩,
      ⟨⟨2, ![l, 32]⟩, extractStridedSlice ⟨2, ![l, 32]⟩ ![0, 0] a hs⟩] hc)) := by
  intro t k
  rw [win_double, Nat.cast_add, ← h t k]
  pointwise
  congr 1
  by_cases hlt : t.val < n
  · rw [dif_pos hlt, if_pos hlt]
    simp
  · rw [dif_neg hlt, if_neg hlt]
    exact (congrArg a (Idealize.ShloMosaic.eq_ix2 _)).trans (h ⟨t.val - n, by omega⟩ k)

theorem cap_test (a v : FVec Ideal S1024x32 .f32) (b : FVec Ideal S8x32 .f32) (t : Fin 1024) (k : Fin 32) :
    cmpf .olt (addf (subf a v) (broadcastTo S1024x32 (shapeCast S1x32 (multiReduction .add [0] S32 b 0x00000000#32 reduces_S8x32_S32 (.inl rfl) rfl) shapeCasts_S32_S1x32) broadcasts_S1x32_S1024x32))
      (broadcast S1024x32 (Scalar.ofBits .f32 0x434C0000#32)) (ix2 t k) = Ideal.cmp .olt (a (ix2 t k) - v (ix2 t k) + ∑ s : Fin 8, b (ix2 s k)) ((204 : ℕ) : EReal) := by
  rw [← ofBits_cap]
  pointwise

/-- The test of the kernel, at a token and an expert: fewer than 204 tokens before it ask for the expert. -/
theorem test (hR : ∀ s, IsBlock E (R s) s) (c : Fin 8) (t : Fin 1024) (k : Fin 32) :
    k0_pay6 (F := Ideal) (k0_pay2 (R c)) (k0_pay5 (wd c) (tbl fun p => k0_pay4 (R p))) (ix2 t k) = 1#1
      ↔ Nat.count (fun u => asks E k u) (1024 * c.val + t.val) < 204 := by
  have h1 : Runs (fun k u => hot (asks E k) (1024 * c.val + u)) 1 (k0_pay2 (R c)) := fun t k => by rw [win_one]; exact one_hot (hR c) t k
  have h := (((((((((h1.step slices_S1024x32_o0_0_S1023x32 concatenates_S1x32_S1023x32_S1024x32_d0).step slices_S1024x32_o0_0_S1022x32 concatenates_S2x32_S1022x32_S1024x32_d0).step
    slices_S1024x32_o0_0_S1020x32 concatenates_S4x32_S1020x32_S1024x32_d0).step slices_S1024x32_o0_0_S1016x32 concatenates_S8x32_S1016x32_S1024x32_d0).step
    slices_S1024x32_o0_0_S1008x32 concatenates_S16x32_S1008x32_S1024x32_d0).step slices_S1024x32_o0_0_S992x32 concatenates_S32x32_S992x32_S1024x32_d0).step
    slices_S1024x32_o0_0_S960x32 concatenates_S64x32_S960x32_S1024x32_d0).step slices_S1024x32_o0_0_S896x32 concatenates_S128x32_S896x32_S1024x32_d0).step
    slices_S1024x32_o0_0_S768x32 concatenates_S256x32_S768x32_S1024x32_d0).step slices_S1024x32_o0_0_S512x32 concatenates_S512x32_S512x32_S1024x32_d0
  have hb : ∑ s : Fin 8, k0_pay5 (F := Ideal) (wd c) (tbl fun p => k0_pay4 (R p)) (ix2 s k)
      = ((∑ s : Fin 8, (∑ u : Fin 1024, hot (asks E k) (1024 * s.val + u.val)) * (if s.val < c.val then 1 else 0) : ℕ) : EReal) := by
    rw [Nat.cast_sum]
    exact Finset.sum_congr rfl fun s _ => earlier_counts hR c s k
  refine (iff_of_eq (congrArg (· = 1#1) (show k0_pay6 _ _ _ = _ from cap_test _ _ _ t k))).trans ?_
  rw [hb, one_hot (hR c) t k, h t k, win_full _ _ _ t.isLt]
  refine (Ideal.cmp_olt_eq_one _ _).trans ((lt_iff _ _ _ _).trans ?_)
  have hp := place (asks E k) 1024 8 c.val t.val (by omega)
  rw [win_one] at hp
  beta_reduce
  omega

/-! ## Kept tokens -/

theorem select_nat (b : BitVec 1) (n : ℕ) : Scalar.select b (((n : ℕ) : EReal) : Ideal .f32) (0 : EReal) = (((if b = 1#1 then n else 0 : ℕ) : ℕ) : EReal) := by
  change (if b = 1#1 then _ else _) = _
  by_cases h : b = 1#1
  · rw [if_pos h, if_pos h]
  · rw [if_neg h, if_neg h, Nat.cast_zero]

/-- How many experts serve the token: one or none. -/
def kept (E : ℕ → BitVec 32) (i : ℕ) : ℕ := ∑ k : Fin 32, if Nat.count (fun u => asks E k u) i < 204 then hot (asks E k) i else 0

theorem keep_col (hR : ∀ s, IsBlock E (R s) s) (c : Fin 8) (t : Fin 1024) :
    k0_pay7 (F := Ideal) (k0_pay2 (R c)) (k0_pay6 (k0_pay2 (R c)) (k0_pay5 (wd c) (tbl fun p => k0_pay4 (R p)))) (Scalar.ofBits .f32 0x00000000#32) (ix2 t 0)
      = ((kept E (1024 * c.val + t.val) : ℕ) : EReal) := by
  pointwise [k0_pay7]
  unfold kept
  rw [Nat.cast_sum]
  refine Finset.sum_congr rfl fun k _ => ?_
  rw [one_hot (hR c) t k, select_nat]
  simp only [test hR c t k]

theorem kept_hot (E : ℕ → BitVec 32) (i : ℕ) (k : Fin 32) : kept E i * hot (asks E k) i = if served E k i then 1 else 0 := by
  by_cases h : E i = BitVec.ofNat 32 k
  · have hk : kept E i = if Nat.count (fun u => asks E k u) i < 204 then hot (asks E k) i else 0 := by
      refine Finset.sum_eq_single k (fun j _ hj => ?_) (fun hk => absurd (Finset.mem_univ _) hk)
      have hn : ¬ E i = BitVec.ofNat 32 j := by
        intro he
        refine hj (Fin.ext ?_)
        have := congrArg BitVec.toNat (he.symm.trans h)
        rwa [BitVec.toNat_ofNat, BitVec.toNat_ofNat, Nat.mod_eq_of_lt (by omega), Nat.mod_eq_of_lt (by omega)] at this
      rw [hot_asks, if_neg hn, ite_self]
    rw [hk, hot_asks, if_pos h]
    unfold served
    simp [h]
  · rw [hot_asks, if_neg h, if_neg fun hs => h hs.1, mul_zero]

end Cert.KernelIdeal.Talk
-- ==== Proof.Products.lean ====
/-
  The products that the kernel adds up, read at a token and a column.
-/
module

public import proofs.«01_k».proof.Proof.Mask

@[expose] public section

noncomputable section

namespace Cert.KernelIdeal.Talk

open Cert.KernelIdeal Cert.KernelIdeal.Gen
open Idealize.ShloMosaic
open Cert.Count

theorem place4 (w : S4x512x1024.Idx → EReal) (j : Fin 4) (d : Fin 512) (f : Fin 1024) (h1 : (j.val * 512 + d.val) / 512 < 4) (h2 : (j.val * 512 + d.val) % 512 < 512) :
    w (ix3 ⟨(j.val * 512 + d.val) / 512, h1⟩ ⟨(j.val * 512 + d.val) % 512, h2⟩ f) = w (ix3 j d f) := by
  have e1 : (⟨(j.val * 512 + d.val) / 512, h1⟩ : Fin 4) = j := Fin.ext (by show (j.val * 512 + d.val) / 512 = j.val; omega)
  have e2 : (⟨(j.val * 512 + d.val) % 512, h2⟩ : Fin 512) = d := Fin.ext (by show (j.val * 512 + d.val) % 512 = d.val; omega)
  rw [e1, e2]

/-- Four blocks of columns side by side, times four blocks of rows below each other. -/
theorem cat4 (P : Fin 4 → FVec Ideal S1024x512 .bf16) (w : FVec Ideal S4x512x1024 .bf16) (t f : Fin 1024) :
  matmul dot_S1024x2048_S2048x1024_S1024x1024_1_0_0_1_n_n none
    (concatenate S1024x2048 1 [⟨S1024x512, P 0⟩, ⟨S1024x512, P 1⟩, ⟨S1024x512, P 2⟩, ⟨S1024x512, P 3⟩] concatenates_S1024x512_S1024x512_S1024x512_S1024x512_S1024x2048_d1)
    (shapeCast S2048x1024 w shapeCasts_S4x512x1024_S2048x1024) (constant S1024x1024 .f32 0x00000000#32) (ix2 t f) = ∑ j : Fin 4, ∑ d : Fin 512, P j (ix2 t d) * w (ix3 j d f) := by
  pointwise
  rw [Fin.sum_univ_tiles 4 512 (by norm_num)]
  refine Finset.sum_congr rfl fun j _ => Finset.sum_congr rfl fun d _ => ?_
  refine Ideal.mul_congr ?_ (place4 w j d f _ _)
  have hd := d.isLt
  rcases j with ⟨j, hj⟩
  interval_cases j
  · rw [dif_pos (by dsimp only; omega)]
    exact congrArg (fun x => P 0 (ix2 t x)) (Fin.ext (by dsimp only; omega))
  · rw [dif_neg (by dsimp only; omega), dif_pos (by dsimp only; omega)]
    exact congrArg (fun x => P 1 (ix2 t x)) (Fin.ext (by dsimp only; omega))
  · rw [dif_neg (by dsimp only; omega), dif_neg (by dsimp only; omega), dif_pos (by dsimp only; omega)]
    exact congrArg (fun x => P 2 (ix2 t x)) (Fin.ext (by dsimp only; omega))
  · rw [dif_neg (by dsimp only; omega), dif_neg (by dsimp only; omega), dif_neg (by dsimp only; omega)]
    exact congrArg (fun x => P 3 (ix2 t x)) (Fin.ext (by dsimp only; omega))

/-- Two blocks of columns side by side, times two blocks of rows below each other. -/
theorem cat2 (P : Fin 2 → FVec Ideal S1024x512 .bf16) (w : FVec Ideal S2x512x1024 .bf16) (t f : Fin 1024) :
    matmul dot_S1024x1024_S1024x1024_S1024x1024_1_0_0_1_n_n none
      (concatenate S1024x1024 1 [⟨S1024x512, P 0⟩, ⟨S1024x512, P 1⟩] concatenates_S1024x512_S1024x512_S1024x1024_d1)
      (shapeCast S1024x1024 w shapeCasts_S2x512x1024_S1024x1024) (constant S1024x1024 .f32 0x00000000#32) (ix2 t f) = ∑ j : Fin 2, ∑ d : Fin 512, P j (ix2 t d) * w (ix3 j d f) := by
  pointwise
  rw [Fin.sum_univ_two]
  refine Ideal.add_congr ?_ ?_
  · refine Finset.sum_congr rfl fun d _ => Ideal.mul_congr rfl (congrArg w ?_)
    exact congrArg₂ (fun a b => ix3 a b f) (Fin.ext (by show d.val / 512 = 0; omega)) (Fin.ext (by show d.val % 512 = d.val; omega))
  · refine Finset.sum_congr rfl fun d _ => Ideal.mul_congr rfl (congrArg w ?_)
    exact congrArg₂ (fun a b => ix3 a b f) (Fin.ext (by show (512 + d.val) / 512 = 1; omega)) (Fin.ext (by show (512 + d.val) % 512 = d.val; omega))

/-! ## The two shapes of a step -/

section Steps

variable {F : FTy → Type} [FloatOps F]
variable (v34 : IVec S1024x1 32) (v175 : FVec F S1024x1 .f32) (v178 : FVec F S1024x512 .bf16)

/-- The tokens of one expert, the others zeroed. -/
def masked (e : BitVec 32) : FVec F S1024x512 .bf16 :=
  mulf v178 (broadcastTo S1024x512 (truncf .bf16 (mulf v175 (sitofp .f32 (extui 32 (cmpi .eq v34 (broadcast S1024x1 e)) natLt_1_32))) bitsLt_bf16_f32) broadcasts_S1024x1_S1024x512)

/-- The number of a block's expert. -/
def nth (o : BitVec 32) (j : ℕ) : BitVec 32 := Scalar.addi (Scalar.muli o 4#32) (BitVec.ofNat 32 j)

/-- A step with the four experts of a block, -/
def quad (o : BitVec 32) (w : FVec F S4x512x1024 .bf16) (a : FVec F S1024x1024 .f32) : FVec F S1024x1024 .f32 :=
  addf a (matmul dot_S1024x2048_S2048x1024_S1024x1024_1_0_0_1_n_n none
    (concatenate S1024x2048 1 [⟨S1024x512, masked v34 v175 v178 (nth o 0)⟩, ⟨S1024x512, masked v34 v175 v178 (nth o 1)⟩, ⟨S1024x512, masked v34 v175 v178 (nth o 2)⟩,
      ⟨S1024x512, masked v34 v175 v178 (nth o 3)⟩] concatenates_S1024x512_S1024x512_S1024x512_S1024x512_S1024x2048_d1)
    (shapeCast S2048x1024 w shapeCasts_S4x512x1024_S2048x1024) (constant S1024x1024 .f32 0x00000000#32))

/-- and one with two of them, from the `e`-th on. -/
def duo (e : ℕ) (o : BitVec 32) (w : FVec F S2x512x1024 .bf16) (a : FVec F S1024x1024 .f32) : FVec F S1024x1024 .f32 :=
  addf a (matmul dot_S1024x1024_S1024x1024_S1024x1024_1_0_0_1_n_n none
    (concatenate S1024x1024 1 [⟨S1024x512, masked v34 v175 v178 (nth o (e + 0))⟩, ⟨S1024x512, masked v34 v175 v178 (nth o (e + 1))⟩] concatenates_S1024x512_S1024x512_S1024x1024_d1)
    (shapeCast S1024x1024 w shapeCasts_S2x512x1024_S1024x1024) (constant S1024x1024 .f32 0x00000000#32))

/-- The block that a device gets over a stream, as loaded. -/
theorem loaded (w : Vec F S4x512x1024 .bf16) : shapeCast S4x512x1024 (up4 w) shapeCasts_S1x4x512x1024_S4x512x1024 = w := by
  funext i
  pointwise
  exact congrArg w (funext fun a => by fin_cases a <;> rfl)

/-- Half of it. -/
def half (e : ℕ) (inb : ∀ a, (![0, e, 0, 0] : Fin 4 → ℕ) a + S1x2x512x1024.size a ≤ S2x4x512x1024.size a) (w : Vec F S4x512x1024 .bf16) : FVec F S2x512x1024 .bf16 :=
  shapeCast S2x512x1024 (up2 e inb w) shapeCasts_S1x2x512x1024_S2x512x1024

theorem half_apply (e : ℕ) (he : e ≤ 2) (inb) (w : Vec F S4x512x1024 .bf16) (j : Fin 2) (d : Fin 512) (f : Fin 1024) :
    half e inb w (ix3 j d f) = w (ix3 ⟨e + j.val, by omega⟩ d f) := by
  unfold half
  pointwise
  unfold up2 spread
  refine congrArg w (funext fun a => Fin.ext ?_)
  rw [Rect.emb_apply]
  fin_cases a
  · exact congrArg (e + ·) (Nat.one_mul _)
  · exact (Nat.zero_add _).trans (Nat.one_mul _)
  · exact (Nat.zero_add _).trans (Nat.one_mul _)

theorem quad_of (o : BitVec 32) (w : Vec F S4x512x1024 .bf16) (a : FVec F S1024x1024 .f32) :
    quad v34 v175 v178 o (shapeCast S4x512x1024 (up4 w) shapeCasts_S1x4x512x1024_S4x512x1024) (shapeCast S1024x1024 a shapeCasts_S1024x1024_S1024x1024) = quad v34 v175 v178 o w a := by
  rw [loaded, shapeCast_id]
theorem own_of (o : BitVec 32) (w : Vec F S4x512x1024 .bf16) (a : FVec F S1024x1024 .f32) :
    quad v34 v175 v178 o w (shapeCast S1024x1024 a shapeCasts_S1024x1024_S1024x1024) = quad v34 v175 v178 o w a := by
  rw [shapeCast_id]
theorem duo_of (e : ℕ) (o : BitVec 32) (w : FVec F S2x512x1024 .bf16) (a : FVec F S1024x1024 .f32) :
    duo v34 v175 v178 e o w (shapeCast S1024x1024 a shapeCasts_S1024x1024_S1024x1024) = duo v34 v175 v178 e o w a := by
  rw [shapeCast_id]

variable (o : BitVec 32) (w : Vec F S4x512x1024 .bf16) (a : FVec F S1024x1024 .f32)

theorem step0 (v40 : FVec F S1024x32 .f32) (v171 : IVec S1024x32 1) (z : F .f32) (x : Vec F S1024x512 .f32) :
    k0_pay13 v34 (k0_pay7 v40 v171 z) (k0_pay8 x) w (k0_pay10 o v34 v40 v171 z x) (k0_pay11 o v34 v40 v171 z x) (k0_pay12 o v34 v40 v171 z x) (Scalar.addi (Scalar.muli o 4#32) 3#32) a
      = quad v34 (k0_pay7 v40 v171 z) (k0_pay8 x) o w a := by
  unfold k0_pay13 k0_pay10 k0_pay11 k0_pay12
  exact own_of ..
theorem step1 : k0_pay16 (k0_pay14 (up4 w)) (k0_pay15 o v34 v175 v178) a = quad v34 v175 v178 (Scalar.remsi (Scalar.addi o 7#32) 8#32) w a := by
  unfold k0_pay16 k0_pay14 k0_pay15
  exact quad_of ..
theorem step2 : k0_pay21 v34 v175 v178 (k0_pay17 (up4 w)) (k0_pay18 o v34 v175 v178) (k0_pay19 o v34 v175 v178) (k0_pay20 o v34 v175 v178)
    (Scalar.muli (Scalar.remsi (Scalar.addi o 1#32) 8#32) 4#32) a = quad v34 v175 v178 (Scalar.remsi (Scalar.addi o 1#32) 8#32) w a := by
  unfold k0_pay21 k0_pay17 k0_pay18 k0_pay19 k0_pay20
  exact quad_of ..
theorem step3 : k0_pay24 v34 v175 v178 (Scalar.remsi (Scalar.addi o 6#32) 8#32) (k0_pay22 (up4 w)) (k0_pay23 o) a = quad v34 v175 v178 (Scalar.remsi (Scalar.addi o 6#32) 8#32) w a := by
  unfold k0_pay24 k0_pay22 k0_pay23
  exact quad_of ..
theorem step4 : k0_pay28 (k0_pay25 v34 v175 v178 o) (k0_pay26 (up4 w)) (k0_pay27 a) = quad v34 v175 v178 o w a := by
  unfold k0_pay28 k0_pay25 k0_pay26 k0_pay27
  exact quad_of ..
theorem step5 : k0_pay32 v34 v175 v178 (Scalar.remsi (Scalar.addi o 5#32) 8#32) (k0_pay29 (up4 w)) (k0_pay30 o v34 v175 v178) (k0_pay31 o v34 v175) a
    = quad v34 v175 v178 (Scalar.remsi (Scalar.addi o 5#32) 8#32) w a := by
  unfold k0_pay32 k0_pay29 k0_pay30 k0_pay31
  exact quad_of ..
theorem step6 : k0_pay35 v34 v175 v178 (Scalar.remsi (Scalar.addi o 3#32) 8#32) (k0_pay33 (up4 w)) (k0_pay34 o v34 v175) a
    = quad v34 v175 v178 (Scalar.remsi (Scalar.addi o 3#32) 8#32) w a := by
  unfold k0_pay35 k0_pay33 k0_pay34
  exact quad_of ..
theorem step7 (inb) : k0_pay36 o v34 v175 v178 (up2 0 inb w) a = duo v34 v175 v178 0 (Scalar.remsi (Scalar.addi o 4#32) 8#32) (half 0 inb w) a := by
  unfold k0_pay36
  exact duo_of ..
theorem step8 (inb) : k0_pay37 v34 v175 v178 o (up2 2 inb w) a = duo v34 v175 v178 2 o (half 2 inb w) a := by
  unfold k0_pay37
  exact duo_of ..

/-- The result, step by step. -/
theorem outAt_steps (wb : Dev nD → Vec F S4x512x1024 .bf16) (hb : Vec F S8x32 .f32) (c : Dev nD) (x : Vec F S1024x512 .f32) (r : Vec F S1024x1 .i32) :
    outAt wb hb c x r =
      let v34 := k0_pay1 r
      let v175 := k0_pay7 (F := F) (k0_pay2 r) (k0_pay6 (k0_pay2 r) (k0_pay5 (wd c) hb)) (Scalar.ofBits .f32 0x00000000#32)
      let v178 := k0_pay8 x
      let s o w a := quad v34 v175 v178 (Scalar.remsi (Scalar.addi (wd c) o) 8#32) w a
      duo v34 v175 v178 2 (Scalar.remsi (Scalar.addi (wd c) 4#32) 8#32) (half 2 inb_S2x4x512x1024_S1x2x512x1024_0_2_0_0 (wb (org .l 4 c)))
        (duo v34 v175 v178 0 (Scalar.remsi (Scalar.addi (wd c) 4#32) 8#32) (half 0 inb_S2x4x512x1024_S1x2x512x1024_0_0_0_0 (wb (org .r 4 c)))
          (s 3#32 (wb (org .l 3 c)) (s 5#32 (wb (org .r 3 c)) (s 2#32 (wb (org .l 2 c)) (s 6#32 (wb (org .r 2 c)) (s 1#32 (wb (org .l 1 c)) (s 7#32 (wb (org .r 1 c))
            (quad v34 v175 v178 (wd c) (wb c) k0_pay9)))))))) := by
  simp only [outAt, step0, step1, step2, step3, step4, step5, step6, step7, step8]

end Steps

end Cert.KernelIdeal.Talk
-- ==== Proof.Total.lean ====
/-
  The kernel's result, as one sum over the experts.
-/
module

public import proofs.«01_k».proof.Proof.Products

@[expose] public section

noncomputable section

namespace Cert.KernelIdeal.Talk

open Cert.KernelIdeal Cert.KernelIdeal.Gen
open Idealize.ShloMosaic
open Cert.Count

section Read

variable (v34 : IVec S1024x1 32) (v175 : FVec Ideal S1024x1 .f32) (v178 : FVec Ideal S1024x512 .bf16)

theorem masked_apply (e : BitVec 32) (t : Fin 1024) (d : Fin 512) :
    masked v34 v175 v178 e (ix2 t d) = v178 (ix2 t d) * (v175 (ix2 t 0) * (((if v34 (ix2 t 0) = e then 1 else 0 : ℕ) : ℕ) : EReal)) := by
  pointwise [masked]
  rw [bit_f32]
  simp only [eq_bit]

theorem quad_apply (o : BitVec 32) (w : FVec Ideal S4x512x1024 .bf16) (a : FVec Ideal S1024x1024 .f32) (t f : Fin 1024) :
    quad v34 v175 v178 o w a (ix2 t f) = a (ix2 t f) + ∑ j : Fin 4, ∑ d : Fin 512, masked v34 v175 v178 (nth o j) (ix2 t d) * w (ix3 j d f) :=
  congrArg (fun z : EReal => a (ix2 t f) + z) (cat4 (fun j => masked v34 v175 v178 (nth o j)) w t f)

theorem duo_apply (e : ℕ) (o : BitVec 32) (w : FVec Ideal S2x512x1024 .bf16) (a : FVec Ideal S1024x1024 .f32) (t f : Fin 1024) :
    duo v34 v175 v178 e o w a (ix2 t f) = a (ix2 t f) + ∑ j : Fin 2, ∑ d : Fin 512, masked v34 v175 v178 (nth o (e + j)) (ix2 t d) * w (ix3 j d f) :=
  congrArg (fun z : EReal => a (ix2 t f) + z) (cat2 (fun j => masked v34 v175 v178 (nth o (e + j))) w t f)

end Read

theorem plain_routes (r : Vec Ideal S1024x1 .i32) (t : Fin 1024) : k0_pay1 (F := Ideal) r (ix2 t 0) = r (ix2 t 0) := by
  pointwise [k0_pay1]
theorem plain_tokens (x : Vec Ideal S1024x512 .f32) (t : Fin 1024) (d : Fin 512) : k0_pay8 (F := Ideal) x (ix2 t d) = x (ix2 t d) := by
  pointwise [k0_pay8]
theorem plain_experts (e : Vec Ideal S4x512x1024 .f32) (j : Fin 4) (d : Fin 512) (f : Fin 1024) : k0_pay3 (F := Ideal) e (ix3 j d f) = e (ix3 j d f) := by
  pointwise [k0_pay3]
theorem plain_zero (t f : Fin 1024) : k0_pay9 (F := Ideal) (ix2 t f) = (0 : EReal) := by
  pointwise [k0_pay9]

/-! ## The blocks' numbers -/

theorem own_word (c : Fin 8) : wd c = BitVec.ofNat 32 c.val := by revert c; decide
theorem far_word (c k : Fin 8) : Scalar.remsi (Scalar.addi (wd c) (BitVec.ofNat 32 k.val)) 8#32 = BitVec.ofNat 32 (c + k).val := by revert c k; decide
theorem nth_word (o : Fin 8) (j : Fin 4) : nth (BitVec.ofNat 32 o.val) j.val = BitVec.ofNat 32 (o.val * 4 + j.val) := by revert o j; decide

variable {E : ℕ → BitVec 32} {R : Dev nD → Vec Ideal S1024x1 .i32}

theorem one_term (x w : EReal) (n h : ℕ) (p : Prop) [Decidable p] (hp : n * h = if p then 1 else 0) (hh : h = 0 ∨ h = 1) :
    x * ((n : EReal) * (h : EReal)) * w = if p then x * w else 0 := by
  have e : (n : EReal) * (h : EReal) = ((n * h : ℕ) : EReal) := by rcases hh with rfl | rfl <;> simp
  rw [e, hp]
  split_ifs <;> simp

/-- What the experts give to a token. -/
def given (E : ℕ → BitVec 32) (X : Fin 512 → EReal) (W : Fin 32 → Fin 512 → EReal) (i : ℕ) (k : Fin 32) : EReal := if served E k i then ∑ d, X d * W k d else 0

variable (c : Fin 8) (x : Vec Ideal S1024x512 .f32)

/-- The products with one expert. -/
theorem expert_sum (hR : ∀ s, IsBlock E (R s) s) (c : Fin 8) (x : Vec Ideal S1024x512 .f32) (t : Fin 1024) (k : Fin 32) (w : Fin 512 → EReal) :
    (∑ d : Fin 512, masked (k0_pay1 (F := Ideal) (R c)) (k0_pay7 (F := Ideal) (k0_pay2 (R c)) (k0_pay6 (k0_pay2 (R c)) (k0_pay5 (wd c) (tbl fun p => k0_pay4 (R p)))) (Scalar.ofBits .f32 0x00000000#32))
      (k0_pay8 x) (BitVec.ofNat 32 k.val) (ix2 t d) * w d : EReal) = if served E k (1024 * c.val + t.val) then ∑ d, (x (ix2 t d) : EReal) * w d else 0 := by
  have h : ∀ d : Fin 512, (masked (k0_pay1 (F := Ideal) (R c)) (k0_pay7 (F := Ideal) (k0_pay2 (R c)) (k0_pay6 (k0_pay2 (R c)) (k0_pay5 (wd c) (tbl fun p => k0_pay4 (R p)))) (Scalar.ofBits .f32 0x00000000#32))
      (k0_pay8 x) (BitVec.ofNat 32 k.val) (ix2 t d) * w d : EReal) = if served E k (1024 * c.val + t.val) then (x (ix2 t d) : EReal) * w d else 0 := fun d => by
    rw [masked_apply, keep_col hR c t, plain_tokens, plain_routes, hR c t, ← hot_asks]
    refine one_term _ _ _ _ _ (kept_hot E _ k) ?_
    rw [hot_asks]
    split_ifs <;> simp
  rw [Finset.sum_congr rfl fun d _ => h d]
  split_ifs <;> simp

variable (wb : Dev nD → Vec Ideal S4x512x1024 .bf16) (W : Fin 32 → Fin 512 → Fin 1024 → EReal)

/-- The experts of each device are its part of all experts. -/
def IsPart (wb : Dev nD → Vec Ideal S4x512x1024 .bf16) (W : Fin 32 → Fin 512 → Fin 1024 → EReal) : Prop :=
  ∀ (o : Fin 8) (j : Fin 4) (d : Fin 512) (f : Fin 1024), wb o (ix3 j d f) = W ⟨o.val * 4 + j.val, by omega⟩ d f

/-- What one device's experts give to a token. -/
def share (E : ℕ → BitVec 32) (x : Vec Ideal S1024x512 .f32) (W : Fin 32 → Fin 512 → Fin 1024 → EReal) (c : Fin 8) (t f : Fin 1024) (o : Fin 8) : EReal :=
  ∑ j : Fin 4, given E (fun d => x (ix2 t d)) (fun k d => W k d f) (1024 * c.val + t.val) ⟨o.val * 4 + j.val, by omega⟩

theorem quad_share (hR : ∀ s, IsBlock E (R s) s) (hW : IsPart wb W) (o : Fin 8) (b : BitVec 32) (hb : b = BitVec.ofNat 32 o.val) (q : Dev nD) (hq : q = o) (a : FVec Ideal S1024x1024 .f32) (t f : Fin 1024) :
    quad (k0_pay1 (F := Ideal) (R c)) (k0_pay7 (F := Ideal) (k0_pay2 (R c)) (k0_pay6 (k0_pay2 (R c)) (k0_pay5 (wd c) (tbl fun p => k0_pay4 (R p)))) (Scalar.ofBits .f32 0x00000000#32)) (k0_pay8 x)
      b (wb q) a (ix2 t f) = a (ix2 t f) + share E x W c t f o := by
  subst hb hq
  rw [quad_apply]
  refine congrArg (fun z : EReal => a (ix2 t f) + z) (Finset.sum_congr rfl fun j _ => ?_)
  rw [nth_word, Finset.sum_congr rfl fun d _ => congrArg (fun z : EReal => _ * z) (hW q j d f)]
  exact expert_sum hR c x t ⟨q.val * 4 + j.val, by have : q.val < 8 := q.isLt; omega⟩ fun d => W ⟨q.val * 4 + j.val, by have : q.val < 8 := q.isLt; omega⟩ d f

theorem duo_share (hR : ∀ s, IsBlock E (R s) s) (hW : IsPart wb W) (o : Fin 8) (b : BitVec 32) (hb : b = BitVec.ofNat 32 o.val) (q : Dev nD) (hq : q = o) (e : ℕ) (he : e ≤ 2) (inb)
    (a : FVec Ideal S1024x1024 .f32) (t f : Fin 1024) :
    duo (k0_pay1 (F := Ideal) (R c)) (k0_pay7 (F := Ideal) (k0_pay2 (R c)) (k0_pay6 (k0_pay2 (R c)) (k0_pay5 (wd c) (tbl fun p => k0_pay4 (R p)))) (Scalar.ofBits .f32 0x00000000#32)) (k0_pay8 x)
      e b (half e inb (wb q)) a (ix2 t f)
      = a (ix2 t f) + ∑ j : Fin 2, given E (fun d => x (ix2 t d)) (fun k d => W k d f) (1024 * c.val + t.val) ⟨o.val * 4 + (e + j.val), by omega⟩ := by
  subst hb hq
  rw [duo_apply]
  refine congrArg (fun z : EReal => a (ix2 t f) + z) (Finset.sum_congr rfl fun j _ => ?_)
  rw [nth_word q ⟨e + j.val, by omega⟩, Finset.sum_congr rfl fun d _ => congrArg (fun z : EReal => _ * z) ((half_apply e he inb (wb q) j d f).trans (hW q ⟨e + j.val, by omega⟩ d f))]
  exact expert_sum hR c x t ⟨q.val * 4 + (e + j.val), by have : q.val < 8 := q.isLt; omega⟩ fun d => W ⟨q.val * 4 + (e + j.val), by have : q.val < 8 := q.isLt; omega⟩ d f

theorem org_r (c k : Fin 8) (hk : k ≠ 0) : org .r k.val c = c + (0 - k) := by revert c k; decide
theorem org_l (c k : Fin 8) : org .l k.val c = c + k := by revert c k; decide

/-- The kernel's result at a token and a column. -/
theorem out_apply (hR : ∀ s, IsBlock E (R s) s) (hW : IsPart wb W) (t f : Fin 1024) :
    outAt wb (tbl fun p => k0_pay4 (R p)) c x (R c) (ix2 t f)
      = ∑ k : Fin 32, given E (fun d => x (ix2 t d)) (fun k d => W k d f) (1024 * c.val + t.val) k := by
  rw [outAt_steps]
  dsimp only
  rw [duo_share c x wb W hR hW (c + 4) (Scalar.remsi (Scalar.addi (wd c) 4#32) 8#32) (far_word c 4) (org .l 4 c) (org_l c 4) 2 (by norm_num), duo_share c x wb W hR hW (c + 4) (Scalar.remsi (Scalar.addi (wd c) 4#32) 8#32) (far_word c 4) (org .r 4 c) (org_r c 4 (by decide)) 0 (by norm_num),
    quad_share c x wb W hR hW (c + 3) (Scalar.remsi (Scalar.addi (wd c) 3#32) 8#32) (far_word c 3) (org .l 3 c) (org_l c 3), quad_share c x wb W hR hW (c + 5) (Scalar.remsi (Scalar.addi (wd c) 5#32) 8#32) (far_word c 5) (org .r 3 c) (org_r c 3 (by decide)),
    quad_share c x wb W hR hW (c + 2) (Scalar.remsi (Scalar.addi (wd c) 2#32) 8#32) (far_word c 2) (org .l 2 c) (org_l c 2), quad_share c x wb W hR hW (c + 6) (Scalar.remsi (Scalar.addi (wd c) 6#32) 8#32) (far_word c 6) (org .r 2 c) (org_r c 2 (by decide)),
    quad_share c x wb W hR hW (c + 1) (Scalar.remsi (Scalar.addi (wd c) 1#32) 8#32) (far_word c 1) (org .l 1 c) (org_l c 1), quad_share c x wb W hR hW (c + 7) (Scalar.remsi (Scalar.addi (wd c) 7#32) 8#32) (far_word c 7) (org .r 1 c) (org_r c 1 (by decide)),
    quad_share c x wb W hR hW c _ (own_word c) _ rfl, plain_zero]
  refine ((add_assoc _ _ _).trans (congrArg (fun z : EReal => _ + z) (show _ = share E x W c t f (c + 4) from ?_))).trans ((around (share E x W c t f) c).trans ?_)
  · unfold share
    rw [Fin.sum_univ_two, Fin.sum_univ_two, Fin.sum_univ_four, ← add_assoc]
    rfl
  · exact (Fin.sum_univ_tiles 8 4 (by norm_num) _).symm

end Cert.KernelIdeal.Talk
-- ==== Proof.Value.lean ====
/-
  What the reference computes, and that the kernel computes the same.
-/
module

public import proofs.«01_k».proof.Proof.Total
public import proofs.«01_k».proof.Proof.Gen.ReferenceIdeal.Run
public import Idealize.ShloMosaic.Lib.StableHlo.Predicate
public import Idealize.ShloMosaic.Lib.Layout
public import proofs.«01_k».proof.Defs

@[expose] public section

noncomputable section

namespace Cert.ReferenceIdeal.Value

open Cert.ReferenceIdeal Cert.ReferenceIdeal.Gen
open Idealize.ShloMosaic
open Cert.Count Cert.KernelIdeal.Talk

/-- Which token, of those before a token, asks for the same expert. -/
def sooner (r : Vec Ideal S8192x1 .i32) : IVec S8192x8192 1 :=
  andi (cmpi .eq (broadcastInDim S8192x8192 ![0, 1] bcast_S1x8192_S8192x8192_0_1 (broadcastInDim S1x8192 ![1] bcast_S8192_S1x8192_1 (shapeCast _ r shapeCasts_S8192x1_S8192))) (broadcastInDim S8192x8192 ![0, 1] bcast_S8192x1_S8192x8192_0_1 (broadcastInDim S8192x1 ![0] bcast_S8192_S8192x1_0 (shapeCast _ r shapeCasts_S8192x1_S8192)))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- How many there are. -/
def rank (r : Vec Ideal S8192x1 .i32) : IVec S8192 32 :=
  Host.reduce IntOp.addi (extui 32 (sooner r) natLt_1_32) (constantI S_ 32 0#32) reducesTo_S8192x8192_S8192_d1 h_S_

/-- The reference's result. -/
def result (x : FVec Ideal S8192x512 .f32) (r : Vec Ideal S8192x1 .i32) (e : FVec Ideal S32x512x1024 .f32) : FVec Ideal S8192x1024 .f32 :=
  Host.reduceAdd (select (broadcastInDim S32x8192x1024 ![0, 1, 2] bcast_S32x8192x1_S32x8192x1024_0_1_2 (broadcastInDim S32x8192x1 ![0, 1] bcast_S32x8192_S32x8192x1_0_1 (andi (cmpi .eq (broadcastInDim S32x8192 ![0, 1] bcast_S1x8192_S32x8192_0_1 (broadcastInDim S1x8192 ![1] bcast_S8192_S1x8192_1 (shapeCast _ r shapeCasts_S8192x1_S8192))) (broadcastInDim S32x8192 ![0, 1] bcast_S32x1_S32x8192_0_1 (broadcastInDim S32x1 ![0] bcast_S32_S32x1_0 (iotaInDim S32 32 0)))) (broadcastInDim S32x8192 ![0, 1] bcast_S1x8192_S32x8192_0_1 (broadcastInDim S1x8192 ![1] bcast_S8192_S1x8192_1 (cmpi .slt (rank r) (broadcastInDim S8192 ![] bcast_S_S8192 (constantI S_ 32 204#32)))))))) (transpose S32x8192x1024 [0, 2, 1] (Host.dotGeneral dot_S32x512x1024_S8192x512_S32x1024x8192_1_1_02_0_n_n none e x) transposes_S32x1024x8192_S32x8192x1024_0_2_1) (broadcastInDim S32x8192x1024 ![] bcast_S_S32x8192x1024 (id (constant S_ .f32 0x00000000#32)))) (constant S_ .f32 0x00000000#32) reducesTo_S32x8192x1024_S8192x1024_d0 h_S_

/-- All tokens' experts, as a list without an end. -/
def wants (r : Vec Ideal S8192x1 .i32) (i : ℕ) : BitVec 32 := if h : i < 8192 then r (ix2 ⟨i, h⟩ 0) else 0#32

theorem wants_lt (r : Vec Ideal S8192x1 .i32) (i : Fin 8192) : wants r i.val = r (ix2 i 0) := dif_pos i.isLt

theorem sooner_apply (r : Vec Ideal S8192x1 .i32) (i j : Fin 8192) : sooner r (ix2 i j) = 1#1 ↔ r (ix2 j 0) = r (ix2 i 0) ∧ j.val < i.val := by
  have hb : ∀ a b : BitVec 1, IntOp.andi a b = 1#1 ↔ a = 1#1 ∧ b = 1#1 := by decide
  pointwise [sooner]
  rw [hb]
  refine and_congr StableHlo.Predicate.cmpi_eq_iff ?_
  exact StableHlo.Predicate.slt_ofNat_iff j.val i.val (by omega) (by omega)

theorem rank_apply (r : Vec Ideal S8192x1 .i32) (i : Fin 8192) (k : Fin 32) (h : r (ix2 i 0) = BitVec.ofNat 32 k) :
    (rank r (ix1 i)).toNat = Nat.count (fun u => asks (wants r) k u) i.val := by
  rw [← card_before (asks (wants r) k) 8192 i.val i.isLt.le]
  refine (StableHlo.Predicate.toNat_reduce_count_cols (by norm_num) (sooner r) natLt_1_32 reducesTo_S8192x8192_S8192_d1 h_S_ (ix1 i)).trans (congrArg Finset.card (Finset.filter_congr fun j _ => ?_))
  refine (show _ ↔ sooner r (ix2 i j) = 1#1 from Iff.of_eq (congrArg (fun q => sooner r q = 1#1) (Idealize.ShloMosaic.eq_ix2 _))).trans ((sooner_apply r i j).trans (and_congr_left fun _ => ?_))
  rw [h]
  unfold asks
  rw [wants_lt]
  simp

theorem result_apply (x : FVec Ideal S8192x512 .f32) (r : Vec Ideal S8192x1 .i32) (e : FVec Ideal S32x512x1024 .f32) (i : Fin 8192) (f : Fin 1024) :
    result x r e (ix2 i f) = ∑ k : Fin 32, given (wants r) (fun d => x (ix2 i d)) (fun k d => e (ix3 k d f)) i.val k := by
  have hb : ∀ a b : BitVec 1, IntOp.andi a b = 1#1 ↔ a = 1#1 ∧ b = 1#1 := by decide
  pointwise [result]
  refine Finset.sum_congr rfl fun k _ => ?_
  have hk : (IntOp.andi (IntOp.cmpi .eq (r (ix2 i 0)) (BitVec.ofNat 32 k.val)) (IntOp.cmpi .slt (rank r (ix1 i)) 204#32) = 1#1) ↔ served (wants r) k i.val := by
    rw [hb, StableHlo.Predicate.cmpi_eq_iff]
    unfold served
    rw [wants_lt]
    refine and_congr_right fun h => ?_
    have hn := rank_apply r i k h
    have hc := Nat.count_le (p := fun u => (asks (wants r) k u : Prop)) (n := i.val)
    rw [StableHlo.Predicate.slt_iff_toNat (by rw [hn]; omega) (by decide), hn]
    rfl
  have hz : id (constant (F := Ideal) S_ .f32 0x00000000#32) ix0 = (0 : EReal) := by
    show constant (F := Ideal) S_ .f32 0x00000000#32 ix0 = (0 : EReal)
    pointwise
  rw [hz]
  unfold given
  by_cases h : served (wants r) k i.val
  · rw [if_pos h]
    exact (if_pos (hk.mpr h)).trans (Finset.sum_congr rfl fun d _ => mul_comm _ _)
  · rw [if_neg h]
    exact if_neg fun h' => h (hk.mp h')

end Cert.ReferenceIdeal.Value

namespace Cert.Proof

open Idealize.ShloMosaic Idealize.SL.Sem
open Cert.KernelIdeal.Talk Cert.ReferenceIdeal.Value

/-- Where a block's row lies among all rows. -/
theorem row_lt (c : Fin 8) (t : Fin 1024) : 1024 * c.val + t.val < 8192 := by omega

theorem tokens_row (v : (⟨2, ![8192, 512]⟩ : Shape).Idx → EReal) (c : Fin 8) (t : Fin 1024) (d : Fin 512) :
    Layout.block ⟨2, ![1024, 512]⟩ ⟨2, ![8192, 512]⟩ 0 8 c v (by decide) (ix2 t d) = v (ix2 ⟨1024 * c.val + t.val, row_lt c t⟩ d) := by
  refine congrArg v ((Idealize.ShloMosaic.eq_ix2 _).trans (congrArg₂ ix2 (Fin.ext ?_) (Fin.ext rfl)))
  exact congrArg (· + t.val) (Nat.mul_comm _ _)

theorem routes_row (v : (⟨2, ![8192, 1]⟩ : Shape).Idx → BitVec 32) (c : Fin 8) (t : Fin 1024) :
    Layout.block ⟨2, ![1024, 1]⟩ ⟨2, ![8192, 1]⟩ 0 8 c v (by decide) (ix2 t 0) = v (ix2 ⟨1024 * c.val + t.val, row_lt c t⟩ 0) := by
  refine congrArg v ((Idealize.ShloMosaic.eq_ix2 _).trans (congrArg₂ ix2 (Fin.ext ?_) (Fin.ext rfl)))
  exact congrArg (· + t.val) (Nat.mul_comm _ _)

theorem results_row (v : (⟨2, ![8192, 1024]⟩ : Shape).Idx → EReal) (c : Fin 8) (t f : Fin 1024) :
    Layout.block ⟨2, ![1024, 1024]⟩ ⟨2, ![8192, 1024]⟩ 0 8 c v (by decide) (ix2 t f) = v (ix2 ⟨1024 * c.val + t.val, row_lt c t⟩ f) := by
  refine congrArg v ((Idealize.ShloMosaic.eq_ix2 _).trans (congrArg₂ ix2 (Fin.ext ?_) (Fin.ext rfl)))
  exact congrArg (· + t.val) (Nat.mul_comm _ _)

theorem experts_part (v : (⟨3, ![32, 512, 1024]⟩ : Shape).Idx → EReal) (c : Fin 8) (j : Fin 4) (d : Fin 512) (f : Fin 1024) :
    Layout.block ⟨3, ![4, 512, 1024]⟩ ⟨3, ![32, 512, 1024]⟩ 0 8 c v (by decide) (ix3 j d f) = v (ix3 ⟨c.val * 4 + j.val, by omega⟩ d f) := by
  refine congrArg v (funext fun a => ?_)
  fin_cases a <;> rfl

/-- The kernel's result and the reference's, on arguments that are shared out. -/
theorem same_result (x : FVec Ideal Cert.ReferenceIdeal.S8192x512 .f32) (r : Vec Ideal Cert.ReferenceIdeal.S8192x1 .i32) (e : FVec Ideal Cert.ReferenceIdeal.S32x512x1024 .f32)
    (X : Dev Cert.KernelIdeal.nD → Vec Ideal Cert.KernelIdeal.S1024x512 .f32) (R : Dev Cert.KernelIdeal.nD → Vec Ideal Cert.KernelIdeal.S1024x1 .i32) (W : Dev Cert.KernelIdeal.nD → Vec Ideal Cert.KernelIdeal.S4x512x1024 .f32)
    (hX : ∀ c, X c = Layout.block ⟨2, ![1024, 512]⟩ ⟨2, ![8192, 512]⟩ 0 8 c x) (hR : ∀ c, R c = Layout.block ⟨2, ![1024, 1]⟩ ⟨2, ![8192, 1]⟩ 0 8 c r)
    (hW : ∀ c, W c = Layout.block ⟨3, ![4, 512, 1024]⟩ ⟨3, ![32, 512, 1024]⟩ 0 8 c e) (c : Fin 8) :
    outAt (F := Ideal) (fun p => Cert.KernelIdeal.Gen.k0_pay3 (W p)) (tbl fun p => Cert.KernelIdeal.Gen.k0_pay4 (R p)) c (X c) (R c)
      = Layout.block ⟨2, ![1024, 1024]⟩ ⟨2, ![8192, 1024]⟩ 0 8 c (result x r e) := by
  funext q
  obtain ⟨t, f, rfl⟩ : ∃ t f, q = ix2 t f := ⟨q 0, q 1, Idealize.ShloMosaic.eq_ix2 q⟩
  have hB : ∀ s, IsBlock (wants r) (R s) s := fun s t => by
    rw [hR s]
    exact (routes_row r s t).trans (wants_lt r ⟨1024 * s.val + t.val, row_lt s t⟩).symm
  have hP : IsPart (fun p => Cert.KernelIdeal.Gen.k0_pay3 (F := Ideal) (W p)) fun k d f => e (ix3 k d f) := fun o j d f => by
    beta_reduce
    rw [plain_experts, hW o]
    exact experts_part e o j d f
  refine (out_apply c (X c) _ _ hB hP t f).trans (Eq.trans ?_ ((results_row (result x r e) c t f).trans (result_apply x r e ⟨1024 * c.val + t.val, row_lt c t⟩ f)).symm)
  have hx : (fun d => X c (ix2 t d)) = fun d => x (ix2 ⟨1024 * c.val + t.val, row_lt c t⟩ d) := funext fun d => by
    rw [hX c]
    exact tokens_row x c t d
  rw [hx]

/-- The kernel computes what the reference computes. -/
theorem same_values : Cert.algebraic_KernelIdeal_ReferenceIdeal (hKernelIdeal := Cert.KernelIdeal.Gen.facts) (hReferenceIdeal := Cert.ReferenceIdeal.Gen.facts) := by
  intro m g m' g' _ hm
  refine ⟨result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun q h c => ⟨(h.1 c).1.trans ?_, (h.1 c).2⟩) (run_all (F := Ideal) m g)
    refine (show outOf m c = _ from ?_).trans (same_result _ _ _
      (fun c : Dev Cert.KernelIdeal.nD => m ((c.tc : Thread Cert.KernelIdeal.nD Cert.KernelIdeal.τ).loc Cert.KernelIdeal.main_arg0))
      (fun c : Dev Cert.KernelIdeal.nD => m ((c.tc : Thread Cert.KernelIdeal.nD Cert.KernelIdeal.τ).loc Cert.KernelIdeal.main_arg2))
      (fun c : Dev Cert.KernelIdeal.nD => m ((c.tc : Thread Cert.KernelIdeal.nD Cert.KernelIdeal.τ).loc Cert.KernelIdeal.main_arg3))
      (fun c => (hm c).1) (fun c => (hm c).2.2.1) (fun c => (hm c).2.2.2) c)
    unfold outOf wbOf hbOf
    simp only [xstg_eq, rstg_eq, estg_eq]
  · exact (θ_run _ _ _).mono (fun q h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, kernel_run, ideal_run, reference_run, trivial, same_values⟩

end Cert.Proof

end
